-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v25) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1x1024x2240 : Shape := ⟨3, ![1, 1024, 2240]⟩
abbrev S2240 : Shape := ⟨1, ![2240]⟩
abbrev S_ : Shape := ⟨0, ![]⟩
abbrev S6720x1120 : Shape := ⟨2, ![6720, 1120]⟩
abbrev S6720x140 : Shape := ⟨2, ![6720, 140]⟩
abbrev S2240x32 : Shape := ⟨2, ![2240, 32]⟩
abbrev S32x6720 : Shape := ⟨2, ![32, 6720]⟩
abbrev S6720 : Shape := ⟨1, ![6720]⟩

class Facts : Prop where
  bitsLt_bf16_f32 : FTy.bits .bf16 < FTy.bits .f32
  bcast_S_S1x1024x2240 : S_.BroadcastsInDim S1x1024x2240 (![] : Fin 0 → Fin S1x1024x2240.rank)
  reducesTo_S1x1024x2240_S_d0_1_2 : S1x1024x2240.ReducesTo [0, 1, 2] S_
  h_S_ : 0 < S_.numel
  bcast_S_S2240 : S_.BroadcastsInDim S2240 (![] : Fin 0 → Fin S2240.rank)
  reducesTo_S2240_S_d0 : S2240.ReducesTo [0] S_
  bcast_S_S2240x32 : S_.BroadcastsInDim S2240x32 (![] : Fin 0 → Fin S2240x32.rank)
  reducesTo_S2240x32_S_d0_1 : S2240x32.ReducesTo [0, 1] S_
  bcast_S_S32x6720 : S_.BroadcastsInDim S32x6720 (![] : Fin 0 → Fin S32x6720.rank)
  reducesTo_S32x6720_S_d0_1 : S32x6720.ReducesTo [0, 1] S_

variable [Facts]

def fn_part1 {F : FTy → Type} [FloatOps F] (main_arg2 : FVec F S_ .f32) (main_arg5 : FVec F S_ .f32) (main_v15 : IVec S_ 1) (main_v17 : FVec F S32x6720 .f32) : IVec S_ 1 :=
  let main_cst_4 : FVec F S_ .f32 := constant S_ .f32 0x7F800000#32
  let main_v18 : FVec F S32x6720 .f32 := broadcastInDim S32x6720 ![] bcast_S_S32x6720 main_cst_4
  let main_v19 : IVec S32x6720 1 := cmpf .olt main_v17 main_v18
  let main_c_5 : IVec S_ 1 := constantI S_ 1 1#1
  let main_v20 : IVec S_ 1 := (fun x v => Host.reduce IntOp.andi x v reducesTo_S32x6720_S_d0_1 h_S_) main_v19 main_c_5
  let main_v21 : IVec S_ 1 := andi main_v15 main_v20
  let main_v22 : FVec F S_ .f32 := Host.absf main_arg2
  let main_cst_6 : FVec F S_ .f32 := constant S_ .f32 0x7F800000#32
  let main_v23 : IVec S_ 1 := cmpf .olt main_v22 main_cst_6
  let main_v24 : IVec S_ 1 := andi main_v21 main_v23
  let main_v25 : FVec F S_ .f32 := Host.absf main_arg5
  let main_cst_7 : FVec F S_ .f32 := constant S_ .f32 0x7F800000#32
  let main_v26 : IVec S_ 1 := cmpf .olt main_v25 main_cst_7
  let main_v27 : IVec S_ 1 := andi main_v24 main_v26
  let main_cst_8 : FVec F S_ .f32 := constant S_ .f32 0x00000000#32
  let main_v28 : IVec S_ 1 := cmpf .une main_arg2 main_cst_8
  let main_v29 : IVec S_ 1 := andi main_v27 main_v28
  main_v29

def fn {F : FTy → Type} [FloatOps F] (main_arg0 : FVec F S1x1024x2240 .bf16) (main_arg1 : FVec F S2240 .f32) (main_arg2 : FVec F S_ .f32) (main_arg3 : IVec S6720x1120 8) (main_arg4 : FVec F S6720x140 .fp8e4m3) (main_arg5 : FVec F S_ .f32) (main_arg6 : FVec F S2240x32 .bf16) (main_arg7 : FVec F S32x6720 .bf16) (main_arg8 : FVec F S6720 .f32) : IVec S_ 1 :=
  let main_v0 : FVec F S1x1024x2240 .f32 := (extf .f32 · bitsLt_bf16_f32) main_arg0
  let main_v1 : FVec F S1x1024x2240 .f32 := Host.absf main_v0
  let main_cst : FVec F S_ .f32 := constant S_ .f32 0x7F800000#32
  let main_v2 : FVec F S1x1024x2240 .f32 := broadcastInDim S1x1024x2240 ![] bcast_S_S1x1024x2240 main_cst
  let main_v3 : IVec S1x1024x2240 1 := cmpf .olt main_v1 main_v2
  let main_c : IVec S_ 1 := constantI S_ 1 1#1
  let main_v4 : IVec S_ 1 := (fun x v => Host.reduce IntOp.andi x v reducesTo_S1x1024x2240_S_d0_1_2 h_S_) main_v3 main_c
  let main_v5 : FVec F S2240 .f32 := Host.absf main_arg1
  let main_cst_0 : FVec F S_ .f32 := constant S_ .f32 0x7F800000#32
  let main_v6 : FVec F S2240 .f32 := broadcastInDim S2240 ![] bcast_S_S2240 main_cst_0
  let main_v7 : IVec S2240 1 := cmpf .olt main_v5 main_v6
  let main_c_1 : IVec S_ 1 := constantI S_ 1 1#1
  let main_v8 : IVec S_ 1 := (fun x v => Host.reduce IntOp.andi x v reducesTo_S2240_S_d0 h_S_) main_v7 main_c_1
  let main_v9 : IVec S_ 1 := andi main_v4 main_v8
  let main_v10 : FVec F S2240x32 .f32 := (extf .f32 · bitsLt_bf16_f32) main_arg6
  let main_v11 : FVec F S2240x32 .f32 := Host.absf main_v10
  let main_cst_2 : FVec F S_ .f32 := constant S_ .f32 0x7F800000#32
  let main_v12 : FVec F S2240x32 .f32 := broadcastInDim S2240x32 ![] bcast_S_S2240x32 main_cst_2
  let main_v13 : IVec S2240x32 1 := cmpf .olt main_v11 main_v12
  let main_c_3 : IVec S_ 1 := constantI S_ 1 1#1
  let main_v14 : IVec S_ 1 := (fun x v => Host.reduce IntOp.andi x v reducesTo_S2240x32_S_d0_1 h_S_) main_v13 main_c_3
  let main_v15 : IVec S_ 1 := andi main_v9 main_v14
  let main_v16 : FVec F S32x6720 .f32 := (extf .f32 · bitsLt_bf16_f32) main_arg7
  let main_v17 : FVec F S32x6720 .f32 := Host.absf main_v16
  fn_part1 (F := F) main_arg2 main_arg5 main_v15 main_v17
-- ==== Kernel.lean ====
abbrev S1x1024x2240 : Shape := ⟨3, ![1, 1024, 2240]⟩
abbrev S2240 : Shape := ⟨1, ![2240]⟩
abbrev S_ : Shape := ⟨0, ![]⟩
abbrev S6720x1120 : Shape := ⟨2, ![6720, 1120]⟩
abbrev S6720x140 : Shape := ⟨2, ![6720, 140]⟩
abbrev S2240x32 : Shape := ⟨2, ![2240, 32]⟩
abbrev S32x6720 : Shape := ⟨2, ![32, 6720]⟩
abbrev S6720 : Shape := ⟨1, ![6720]⟩
abbrev S1024x2240 : Shape := ⟨2, ![1024, 2240]⟩
abbrev S2240x1024 : Shape := ⟨2, ![2240, 1024]⟩
abbrev S1 : Shape := ⟨1, ![1]⟩
abbrev S3 : Shape := ⟨1, ![3]⟩
abbrev S1x2240 : Shape := ⟨2, ![1, 2240]⟩
abbrev S32x2240 : Shape := ⟨2, ![32, 2240]⟩
abbrev S1120x1024 : Shape := ⟨2, ![1120, 1024]⟩
abbrev S140x1024 : Shape := ⟨2, ![140, 1024]⟩
abbrev S2304x1024 : Shape := ⟨2, ![2304, 1024]⟩
abbrev S2240x128 : Shape := ⟨2, ![2240, 128]⟩
abbrev S1120x128 : Shape := ⟨2, ![1120, 128]⟩
abbrev S140x128 : Shape := ⟨2, ![140, 128]⟩
abbrev S2304x128 : Shape := ⟨2, ![2304, 128]⟩
abbrev S1x64 : Shape := ⟨2, ![1, 64]⟩
abbrev S128x64 : Shape := ⟨2, ![128, 64]⟩
abbrev S64x128 : Shape := ⟨2, ![64, 128]⟩
abbrev S4x16x128 : Shape := ⟨3, ![4, 16, 128]⟩
abbrev S4x128 : Shape := ⟨2, ![4, 128]⟩
abbrev S4x1x128 : Shape := ⟨3, ![4, 1, 128]⟩
abbrev S8x8x128 : Shape := ⟨3, ![8, 8, 128]⟩
abbrev S8x128 : Shape := ⟨2, ![8, 128]⟩
abbrev S32x128 : Shape := ⟨2, ![32, 128]⟩
abbrev S8x1x128 : Shape := ⟨3, ![8, 1, 128]⟩
abbrev S1120x6720 : Shape := ⟨2, ![1120, 6720]⟩
abbrev S140x6720 : Shape := ⟨2, ![140, 6720]⟩
abbrev S1x6720 : Shape := ⟨2, ![1, 6720]⟩
abbrev S6720x1024 : Shape := ⟨2, ![6720, 1024]⟩
abbrev S1120x256 : Shape := ⟨2, ![1120, 256]⟩
abbrev S140x256 : Shape := ⟨2, ![140, 256]⟩
abbrev S32x256 : Shape := ⟨2, ![32, 256]⟩
abbrev S1x256 : Shape := ⟨2, ![1, 256]⟩
abbrev S256x1024 : Shape := ⟨2, ![256, 1024]⟩
abbrev S2304x256 : Shape := ⟨2, ![2304, 256]⟩
abbrev S32x2x256 : Shape := ⟨3, ![32, 2, 256]⟩
abbrev S32x1x256 : Shape := ⟨3, ![32, 1, 256]⟩
abbrev S64x256 : Shape := ⟨2, ![64, 256]⟩
abbrev S4x256 : Shape := ⟨2, ![4, 256]⟩
abbrev S4x1x256 : Shape := ⟨3, ![4, 1, 256]⟩
abbrev S4x16x256 : Shape := ⟨3, ![4, 16, 256]⟩
abbrev S128x256 : Shape := ⟨2, ![128, 256]⟩
abbrev S256x128 : Shape := ⟨2, ![256, 128]⟩
abbrev S256x1 : Shape := ⟨2, ![256, 1]⟩
abbrev S1024x6720 : Shape := ⟨2, ![1024, 6720]⟩
abbrev S1x1024x6720 : Shape := ⟨3, ![1, 1024, 6720]⟩
abbrev S1024x1120 : Shape := ⟨2, ![1024, 1120]⟩
abbrev S1x1024x1120 : Shape := ⟨3, ![1, 1024, 1120]⟩
abbrev S1024x140 : Shape := ⟨2, ![1024, 140]⟩
abbrev S1x1024x140 : Shape := ⟨3, ![1, 1024, 140]⟩

abbrev nBuf : Space → Nat
  | .hbm => 43
  | .vmem => 23
  | .smem => 3
  | _ => 0

abbrev bufTy : (tb : Table) → Fin (tcTables nBuf tb) → BufTy
  | .hbm, ⟨0, _⟩ => ⟨S1x1024x2240, .bf16⟩
  | .hbm, ⟨1, _⟩ => ⟨S2240, .f32⟩
  | .hbm, ⟨2, _⟩ => ⟨S_, .f32⟩
  | .hbm, ⟨3, _⟩ => ⟨S6720x1120, .i8⟩
  | .hbm, ⟨4, _⟩ => ⟨S6720x140, .fp8e4m3⟩
  | .hbm, ⟨5, _⟩ => ⟨S_, .f32⟩
  | .hbm, ⟨6, _⟩ => ⟨S2240x32, .bf16⟩
  | .hbm, ⟨7, _⟩ => ⟨S32x6720, .bf16⟩
  | .hbm, ⟨8, _⟩ => ⟨S6720, .f32⟩
  | .hbm, ⟨9, _⟩ => ⟨S1024x2240, .bf16⟩
  | .hbm, ⟨10, _⟩ => ⟨S2240x1024, .bf16⟩
  | .hbm, ⟨11, _⟩ => ⟨S_, .f32⟩
  | .hbm, ⟨12, _⟩ => ⟨S_, .f32⟩
  | .hbm, ⟨13, _⟩ => ⟨S_, .i1⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S3, .f32⟩
  | .hbm, ⟨27, _⟩ => ⟨S1, .f32⟩
  | .hbm, ⟨28, _⟩ => ⟨S1x2240, .f32⟩
  | .hbm, ⟨29, _⟩ => ⟨S32x2240, .bf16⟩
  | .hbm, ⟨30, _⟩ => ⟨S1120x1024, .i8⟩
  | .hbm, ⟨31, _⟩ => ⟨S140x1024, .fp8e4m3⟩
  | .hbm, ⟨32, _⟩ => ⟨S2304x1024, .bf16⟩
  | .hbm, ⟨33, _⟩ => ⟨S1120x6720, .i8⟩
  | .hbm, ⟨34, _⟩ => ⟨S140x6720, .fp8e4m3⟩
  | .hbm, ⟨35, _⟩ => ⟨S1x6720, .f32⟩
  | .hbm, ⟨36, _⟩ => ⟨S6720x1024, .bf16⟩
  | .hbm, ⟨37, _⟩ => ⟨S1024x6720, .bf16⟩
  | .hbm, ⟨38, _⟩ => ⟨S1x1024x6720, .bf16⟩
  | .hbm, ⟨39, _⟩ => ⟨S1024x1120, .i8⟩
  | .hbm, ⟨40, _⟩ => ⟨S1x1024x1120, .i8⟩
  | .hbm, ⟨41, _⟩ => ⟨S1024x140, .fp8e4m3⟩
  | .hbm, ⟨42, _⟩ => ⟨S1x1024x140, .fp8e4m3⟩
  | .local _ .vmem, ⟨0, _⟩ => ⟨S2240x128, .bf16⟩
  | .local _ .vmem, ⟨1, _⟩ => ⟨S2240x128, .bf16⟩
  | .local _ .vmem, ⟨2, _⟩ => ⟨S1x2240, .f32⟩
  | .local _ .vmem, ⟨3, _⟩ => ⟨S32x2240, .bf16⟩
  | .local _ .vmem, ⟨4, _⟩ => ⟨S1120x128, .i8⟩
  | .local _ .vmem, ⟨5, _⟩ => ⟨S1120x128, .i8⟩
  | .local _ .vmem, ⟨6, _⟩ => ⟨S140x128, .fp8e4m3⟩
  | .local _ .vmem, ⟨7, _⟩ => ⟨S140x128, .fp8e4m3⟩
  | .local _ .vmem, ⟨8, _⟩ => ⟨S2304x128, .bf16⟩
  | .local _ .vmem, ⟨9, _⟩ => ⟨S2304x128, .bf16⟩
  | .local _ .vmem, ⟨10, _⟩ => ⟨S2240x128, .bf16⟩
  | .local _ .vmem, ⟨11, _⟩ => ⟨S1120x256, .i8⟩
  | .local _ .vmem, ⟨12, _⟩ => ⟨S1120x256, .i8⟩
  | .local _ .vmem, ⟨13, _⟩ => ⟨S140x256, .fp8e4m3⟩
  | .local _ .vmem, ⟨14, _⟩ => ⟨S140x256, .fp8e4m3⟩
  | .local _ .vmem, ⟨15, _⟩ => ⟨S32x256, .bf16⟩
  | .local _ .vmem, ⟨16, _⟩ => ⟨S32x256, .bf16⟩
  | .local _ .vmem, ⟨17, _⟩ => ⟨S1x256, .f32⟩
  | .local _ .vmem, ⟨18, _⟩ => ⟨S1x256, .f32⟩
  | .local _ .vmem, ⟨19, _⟩ => ⟨S2304x1024, .bf16⟩
  | .local _ .vmem, ⟨20, _⟩ => ⟨S256x1024, .bf16⟩
  | .local _ .vmem, ⟨21, _⟩ => ⟨S256x1024, .bf16⟩
  | .local _ .vmem, ⟨22, _⟩ => ⟨S2304x256, .bf16⟩
  | .local _ .smem, ⟨0, _⟩ => ⟨S1, .f32⟩
  | .local _ .smem, ⟨1, _⟩ => ⟨S3, .f32⟩
  | .local _ .smem, ⟨2, _⟩ => ⟨S3, .f32⟩
  | _, _ => ⟨S1x1024x2240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_call0_v0 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_cst_2 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_scratch0 : Ref sig .tc := ⟨.vmem, 22, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2240x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1120x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S140x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2304x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![27], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1120x256 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S140x256 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2304x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1x1024x2240 : Shape := ⟨3, ![1, 1024, 2240]⟩
abbrev S2240 : Shape := ⟨1, ![2240]⟩
abbrev S_ : Shape := ⟨0, ![]⟩
abbrev S6720x1120 : Shape := ⟨2, ![6720, 1120]⟩
abbrev S6720x140 : Shape := ⟨2, ![6720, 140]⟩
abbrev S2240x32 : Shape := ⟨2, ![2240, 32]⟩
abbrev S32x6720 : Shape := ⟨2, ![32, 6720]⟩
abbrev S6720 : Shape := ⟨1, ![6720]⟩
abbrev S1024x2240 : Shape := ⟨2, ![1024, 2240]⟩
abbrev S1x2240 : Shape := ⟨2, ![1, 2240]⟩
abbrev S1 : Shape := ⟨1, ![1]⟩
abbrev S1x6720 : Shape := ⟨2, ![1, 6720]⟩
abbrev S1024x6720 : Shape := ⟨2, ![1024, 6720]⟩
abbrev S1024x1120 : Shape := ⟨2, ![1024, 1120]⟩
abbrev S1024x140 : Shape := ⟨2, ![1024, 140]⟩
abbrev S1024x140x16 : Shape := ⟨3, ![1024, 140, 16]⟩
abbrev S1024x140x1 : Shape := ⟨3, ![1024, 140, 1]⟩
abbrev S1024x1120x2 : Shape := ⟨3, ![1024, 1120, 2]⟩
abbrev S1024x1120x1 : Shape := ⟨3, ![1024, 1120, 1]⟩
abbrev S1024x140x8 : Shape := ⟨3, ![1024, 140, 8]⟩
abbrev S6720x140x1 : Shape := ⟨3, ![6720, 140, 1]⟩
abbrev S6720x140x8 : Shape := ⟨3, ![6720, 140, 8]⟩
abbrev S6720x1120x1 : Shape := ⟨3, ![6720, 1120, 1]⟩
abbrev S6720x1120x2 : Shape := ⟨3, ![6720, 1120, 2]⟩
abbrev S6720x2240 : Shape := ⟨2, ![6720, 2240]⟩
abbrev S1024x32 : Shape := ⟨2, ![1024, 32]⟩
abbrev S1x1024x6720 : Shape := ⟨3, ![1, 1024, 6720]⟩
abbrev S1x1024x1120 : Shape := ⟨3, ![1, 1024, 1120]⟩
abbrev S1x1024x140 : Shape := ⟨3, ![1, 1024, 140]⟩

abbrev nBuf : Space → Nat
  | .hbm => 20
  | .vmem => 10
  | .smem => 2
  | _ => 0

abbrev bufTy : (tb : Table) → Fin (tcTables nBuf tb) → BufTy
  | .hbm, ⟨0, _⟩ => ⟨S1x1024x2240, .bf16⟩
  | .hbm, ⟨1, _⟩ => ⟨S2240, .f32⟩
  | .hbm, ⟨2, _⟩ => ⟨S_, .f32⟩
  | .hbm, ⟨3, _⟩ => ⟨S6720x1120, .i8⟩
  | .hbm, ⟨4, _⟩ => ⟨S6720x140, .fp8e4m3⟩
  | .hbm, ⟨5, _⟩ => ⟨S_, .f32⟩
  | .hbm, ⟨6, _⟩ => ⟨S2240x32, .bf16⟩
  | .hbm, ⟨7, _⟩ => ⟨S32x6720, .bf16⟩
  | .hbm, ⟨8, _⟩ => ⟨S6720, .f32⟩
  | .hbm, ⟨9, _⟩ => ⟨S1024x2240, .bf16⟩
  | .hbm, ⟨10, _⟩ => ⟨S1x2240, .f32⟩
  | .hbm, ⟨11, _⟩ => ⟨S1, .f32⟩
  | .hbm, ⟨12, _⟩ => ⟨S1, .f32⟩
  | .hbm, ⟨13, _⟩ => ⟨S1x6720, .f32⟩
  | .hbm, ⟨14, _⟩ => ⟨S1024x6720, .bf16⟩
  | .hbm, ⟨15, _⟩ => ⟨S1024x1120, .i8⟩
  | .hbm, ⟨16, _⟩ => ⟨S1024x140, .fp8e4m3⟩
  | .hbm, ⟨17, _⟩ => ⟨S1x1024x6720, .bf16⟩
  | .hbm, ⟨18, _⟩ => ⟨S1x1024x1120, .i8⟩
  | .hbm, ⟨19, _⟩ => ⟨S1x1024x140, .fp8e4m3⟩
  | .local _ .vmem, ⟨0, _⟩ => ⟨S1024x2240, .bf16⟩
  | .local _ .vmem, ⟨1, _⟩ => ⟨S1x2240, .f32⟩
  | .local _ .vmem, ⟨2, _⟩ => ⟨S6720x1120, .i8⟩
  | .local _ .vmem, ⟨3, _⟩ => ⟨S6720x140, .fp8e4m3⟩
  | .local _ .vmem, ⟨4, _⟩ => ⟨S2240x32, .bf16⟩
  | .local _ .vmem, ⟨5, _⟩ => ⟨S32x6720, .bf16⟩
  | .local _ .vmem, ⟨6, _⟩ => ⟨S1x6720, .f32⟩
  | .local _ .vmem, ⟨7, _⟩ => ⟨S1024x6720, .bf16⟩
  | .local _ .vmem, ⟨8, _⟩ => ⟨S1024x1120, .i8⟩
  | .local _ .vmem, ⟨9, _⟩ => ⟨S1024x140, .fp8e4m3⟩
  | .local _ .smem, ⟨0, _⟩ => ⟨S1, .f32⟩
  | .local _ .smem, ⟨1, _⟩ => ⟨S1, .f32⟩
  | _, _ => ⟨S1x1024x2240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg2_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x2240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6720x1120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6720x140 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2240x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x6720 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x6720 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x6720 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x1120 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x140 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Kernel.Quant.lean ====
/- The quantising call (region 0 of the program): its blocks, the run of its body with the pieces it stores, and its
   proof data. Stated for any reading `F` of the float types and at any contents `V` of the buffers at its entry. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # The quantising call, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated (`View.read_writes_of_cover`: the
    choice does not matter). -/
abbrev VO0_5 : View sig .tc .vmem S1120x128 .i8 := (Memref.whole cc0_stg5_0 : Memref sig .tc .vmem S1120x128 .i8).view
/-- One staging buffer of output window 6, through which its contents are stated (`View.read_writes_of_cover`: the
    choice does not matter). -/
abbrev VO0_6 : View sig .tc .vmem S140x128 .fp8e4m3 := (Memref.whole cc0_stg6_0 : Memref sig .tc .vmem S140x128 .fp8e4m3).view
/-- One staging buffer of output window 7, through which its contents are stated (`View.read_writes_of_cover`: the
    choice does not matter). -/
abbrev VO0_7 : View sig .tc .vmem S2304x128 .bf16 := (Memref.whole cc0_stg7_0 : Memref sig .tc .vmem S2304x128 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2240x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2240 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x2240 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1120x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S140x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2304x128 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2240x128 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 3000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) :
    Σ' (L5 : List (View.Piece (Elt F) S1120x128 .i8)), Σ' (L6 : List (View.Piece (Elt F) S140x128 .fp8e4m3)), Σ' (L7 : List (View.Piece (Elt F) S2304x128 .bf16)), { LT0 : List (View.Piece (Elt F) S2240x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0)) -∗ K ⟨⟩))
          ⊢ wp frame (wpE (defs₀ (F := F)) Variants.none c none) E (cc0_quant i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_quant_eq_skeleton]; unfold cc0_quant_skel
    simp only [k0_part127_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part128_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

/-- The run's pieces for output 5 tile its block (35 stores of `S32x128`, checked by the kernel's evaluation: Lib/Ring.lean `Piece.tiledL`, linear in the pieces, through a loop's `@[irreducible]` trip theorem too), so they cover it. -/
theorem cover0_A_5 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) (y : S1120x128.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S32x128.size (by sl_kernel_rfl) y

/-- What the run leaves in output 5's staging buffer: its pieces read back over junk. -/
def out0_A_5 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) : Vec F S1120x128 .i8 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- The run's pieces for output 6 tile its block (35 stores of `S4x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) (y : S140x128.Idx) :
    ∃ pc ∈ (kernelRun0_A c i arg1 harg1 arg2 harg2 arg3 harg3 arg4 harg4 arg5 harg5 arg6 harg6 arg7 harg7 arg8 harg8 arg9 harg9 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).2.1 S4x128.size (by sl_kernel_rfl) y

/-- What the run leaves in output 6's staging buffer: its pieces read back over junk. -/
def out0_A_6 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) : Vec F S140x128 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2 x3 x4).2.1)

/-- The run's pieces for output 7 are of SEVERAL sizes (37 stores of `S32x128`, `S64x128`): cut into blocks of `![32, 128]` they tile its block (checked by the kernel's evaluation: Lib/Ring.lean `Piece.tiledBy`), so they cover it. -/
theorem cover0_A_7 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) (y : S2304x128.Idx) :
    ∃ pc ∈ (kernelRun0_A c i arg1 harg1 arg2 harg2 arg3 harg3 arg4 harg4 arg5 harg5 arg6 harg6 arg7 harg7 arg8 harg8 arg9 harg9 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 x0 x1 x2 x3 x4).2.2.1 ![32, 128] (by sl_kernel_rfl) y

/-- What the run leaves in output 7's staging buffer: its pieces read back over junk. -/
def out0_A_7 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) : Vec F S2304x128 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 x0 x1 x2 x3 x4).2.2.1)

/-! ## What the outputs hold after each point -/

/-- What the outputs' staging buffers hold after the body at point `t` (as a tuple, in window order): the run's contents at
    the point's memrefs and input blocks. -/
def outsAt0 (c : Dev nD) (t : Fin cfg0.N) : Vec F S1120x128 .i8 × Vec F S140x128 .fp8e4m3 × Vec F S2304x128 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2.1
    | ⟨7, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2.1 := by dsimp only [dat0]
theorem after0_7 (c : Dev nD) (t : Fin cfg0.N) : (dat0 V c).after 7 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  unfold outsAt0
  unfold out0_A_5 out0_A_6 out0_A_7; (try dsimp only)
  iintro ⟨⟨⟨HS0, HR1, HR2, HR3, HR4, HR5, HR6, HR7, HR8, HR9, HR10, HR11, HR12, HR13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk0 V c 0 t) (iblk0 V c 1 t) (iblk0 V c 2 t) (iblk0 V c 3 t) (iblk0 V c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, ⟨%e5, H5⟩, ⟨%e6, H6⟩, ⟨%e7, H7⟩, ⟨%fT0, HS0⟩⟩
  isplitl [HS0 HR1 HR2 HR3 HR4 HR5 HR6 HR7 HR8 HR9 HR10 HR11 HR12 HR13 Hg]
  · isplitl [HS0 HR1 HR2 HR3 HR4 HR5 HR6 HR7 HR8 HR9 HR10 HR11 HR12 HR13]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      iexact HR13
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Own
-- ==== Proof.Kernel.MainRun.lean ====
/- The main call (region 1 of the program): its blocks, the run of its body with the pieces it stores, and its proof data.
   The grid has one point more than whole blocks fit, so the last block overhangs the arrays: a fetch there leaves the tail
   of a staging buffer at words that nothing names, and the body computes from them too. What the body leaves in the
   result's buffer is therefore held to a relation, `RelOut`: the run's output at the blocks, each filled out by SOME
   words. Stated for any reading `F` of the float types and at any contents `V` of the buffers at the region's entry. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.DatRel
public import Idealize.ShloMosaic.Lib.Pipeline.ArrRel
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when the region is entered
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S256x1024 .bf16 := (Memref.whole cc1_stg6_0 : Memref sig .tc .vmem S256x1024 .bf16).view
/-- Each window's current staging memref at point `t`, spelled as the pipeline passes it (`bodyAt1`), and its wholeness. -/
abbrev ms1_0 (t : Fin cfg1.N) : Memref sig .tc .smem S3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1120x256 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S140x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2304x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x1024 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S2304x256 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1100000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec F S3 .f32) (x1 : Vec F S1120x256 .i8) (x2 : Vec F S140x256 .fp8e4m3) (x3 : Vec F S32x256 .bf16) (x4 : Vec F S1x256 .f32) (x5 : Vec F S2304x1024 .bf16) :
    Σ' (L6 : List (View.Piece (Elt F) S256x1024 .bf16)), { LT0 : List (View.Piece (Elt F) S2304x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0)) -∗ K ⟨⟩))
          ⊢ wp frame (wpE (defs₀ (F := F)) Variants.none c none) E (cc1_main i arg1 harg1 arg2 harg2 arg3 harg3 arg4 harg4 arg5 harg5 arg6 harg6 arg7 harg7 arg8 harg8) K } := by
  refine ⟨?_, ?_, fun E K => ?run⟩
  case run =>
    simp only [cc1_main_eq_skeleton]; unfold cc1_main_skel
    simp only [k1_part41_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

/-- The run's pieces for output 6 tile its block (1 store of `S256x1024`, checked by the kernel's evaluation: Lib/Ring.lean `Piece.tiledL`, linear in the pieces, through a loop's `@[irreducible]` trip theorem too), so they cover it. -/
theorem cover1_A_6 (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec F S3 .f32) (x1 : Vec F S1120x256 .i8) (x2 : Vec F S140x256 .fp8e4m3) (x3 : Vec F S32x256 .bf16) (x4 : Vec F S1x256 .f32) (x5 : Vec F S2304x1024 .bf16) (y : S256x1024.Idx) :
    ∃ pc ∈ (kernelRun1_A c i arg1 harg1 arg2 harg2 arg3 harg3 arg4 harg4 arg5 harg5 arg6 harg6 arg7 harg7 arg8 harg8 x0 x1 x2 x3 x4 x5).1, y ∈ pc.1.set :=
  View.cover_of_tiledL (kernelRun1_A c i arg1 harg1 arg2 harg2 arg3 harg3 arg4 harg4 arg5 harg5 arg6 harg6 arg7 harg7 arg8 harg8 x0 x1 x2 x3 x4 x5).1 S256x1024.size (by sl_kernel_rfl) y

/-- What the run leaves in output 6's staging buffer: its pieces read back over junk. -/
def out1_A_6 (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec F S3 .f32) (x1 : Vec F S1120x256 .i8) (x2 : Vec F S140x256 .fp8e4m3) (x3 : Vec F S32x256 .bf16) (x4 : Vec F S1x256 .f32) (x5 : Vec F S2304x1024 .bf16) : Vec F S256x1024 .bf16 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3 x4 x5).1)

/-! ## What the body may leave -/

/-- Input windows 1 to 4 cut their transfers at the last point: the staging buffer holds the block on the part inside the
    array, and `d` elsewhere. -/
abbrev fld1 (c : Dev nD) (t : Fin cfg1.N) (d : S1120x256.Idx → Elt F .i8) : Vec F S1120x256 .i8 := win1_1.fill (grid1.coords t) d (iblk1 V c 1 t)
abbrev fld2 (c : Dev nD) (t : Fin cfg1.N) (d : S140x256.Idx → Elt F .fp8e4m3) : Vec F S140x256 .fp8e4m3 := win1_2.fill (grid1.coords t) d (iblk1 V c 2 t)
abbrev fld3 (c : Dev nD) (t : Fin cfg1.N) (d : S32x256.Idx → Elt F .bf16) : Vec F S32x256 .bf16 := win1_3.fill (grid1.coords t) d (iblk1 V c 3 t)
abbrev fld4 (c : Dev nD) (t : Fin cfg1.N) (d : S1x256.Idx → Elt F .f32) : Vec F S1x256 .f32 := win1_4.fill (grid1.coords t) d (iblk1 V c 4 t)

/-- The run's output at point `t`, the staging buffers of windows 1 to 4 at `x1` … `x4`. -/
abbrev outAt1 (c : Dev nD) (t : Fin cfg1.N) (x1 : Vec F S1120x256 .i8) (x2 : Vec F S140x256 .fp8e4m3) (x3 : Vec F S32x256 .bf16) (x4 : Vec F S1x256 .f32) : Vec F S256x1024 .bf16 :=
  out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) x1 x2 x3 x4 (iblk1 V c 5 t)

/-- What the body may leave in the result's buffer at point `t`: the run's output, the cut blocks filled out by some words. -/
def RelOut (c : Dev nD) (t : Fin cfg1.N) (X : Vec F S256x1024 .bf16) : Prop :=
  ∃ d1 d2 d3 d4, X = outAt1 V c t (fld1 V c t d1) (fld2 V c t d2) (fld3 V c t d3) (fld4 V c t d4)

/-! ## The pipeline's proof data -/

variable (Y : Fin cfg1.N → Vec F S256x1024 .bf16)

/-- The proof data of pipeline 1 on core `c`: the arrays as the region finds them (`V`); after the body at point `t` each
    input's buffer at its block (the cut ones filled out by a word that nothing reads) and the result's at `Y t`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fld1 V c t (fun _ => (Elt.inhabited F .i8).default)
    | ⟨2, _⟩ => fld2 V c t (fun _ => (Elt.inhabited F .fp8e4m3).default)
    | ⟨3, _⟩ => fld3 V c t (fun _ => (Elt.inhabited F .bf16).default)
    | ⟨4, _⟩ => fld4 V c t (fun _ => (Elt.inhabited F .f32).default)
    | ⟨5, _⟩ => iblk1 V c 5 t
    | ⟨6, _⟩ => Y t
  Φ _ := Pipeline.ΦA spec1 c
  q _ := fullShare
  owed _ := 0

/-- The proof data's arrays are the region-entry contents. -/
theorem A_eq1 (c : Dev nD) (w : Fin cfg1.W) : (dat1 V Y c).A w = V c (Pipeline.arrRef spec1 w) := by
  dsimp only [dat1]

theorem after1_0 (c : Dev nD) (t : Fin cfg1.N) : (dat1 V Y c).after 0 t = iblk1 V c 0 t := by dsimp only [dat1]
theorem after1_5 (c : Dev nD) (t : Fin cfg1.N) : (dat1 V Y c).after 5 t = iblk1 V c 5 t := by dsimp only [dat1]
theorem after1_6 (c : Dev nD) (t : Fin cfg1.N) : (dat1 V Y c).after 6 t = Y t := by dsimp only [dat1]

/-- What the body finds in each input's buffer: the block, or the block filled out by `d`. -/
theorem before1_0 (c : Dev nD) (t : Fin cfg1.N) (d) : (dat1 V Y c).before 0 t d = iblk1 V c 0 t :=
  before1_0_of V (dat1 V Y c) (A_eq1 V Y c 0) (after1_0 V Y c) t d
theorem before1_1 (c : Dev nD) (t : Fin cfg1.N) (d) : (dat1 V Y c).before 1 t d = fld1 V c t d := by
  unfold Dat.before; rw [if_pos (fetch1_1 t)]; rfl
theorem before1_2 (c : Dev nD) (t : Fin cfg1.N) (d) : (dat1 V Y c).before 2 t d = fld2 V c t d := by
  unfold Dat.before; rw [if_pos (fetch1_2 t)]; rfl
theorem before1_3 (c : Dev nD) (t : Fin cfg1.N) (d) : (dat1 V Y c).before 3 t d = fld3 V c t d := by
  unfold Dat.before; rw [if_pos (fetch1_3 t)]; rfl
theorem before1_4 (c : Dev nD) (t : Fin cfg1.N) (d) : (dat1 V Y c).before 4 t d = fld4 V c t d := by
  unfold Dat.before; rw [if_pos (fetch1_4 t)]; rfl
theorem before1_5 (c : Dev nD) (t : Fin cfg1.N) (d) : (dat1 V Y c).before 5 t d = iblk1 V c 5 t :=
  before1_5_of V (dat1 V Y c) (A_eq1 V Y c 5) (after1_5 V Y c) t d

/-- The result's window is the one held to a relation, -/
def fgt1 (w : Fin cfg1.W) : Bool := match w with
  | ⟨0, _⟩ => false | ⟨1, _⟩ => false | ⟨2, _⟩ => false | ⟨3, _⟩ => false | ⟨4, _⟩ => false | ⟨5, _⟩ => false | ⟨6, _⟩ => true
/-- and the relation. -/
def Rl1 (c : Dev nD) (w : Fin cfg1.W) : Fin cfg1.N → ((cfg1.win w).block.Idx → Elt F (cfg1.win w).elt) → Prop := match w with
  | ⟨0, _⟩ => fun _ _ => True | ⟨1, _⟩ => fun _ _ => True | ⟨2, _⟩ => fun _ _ => True | ⟨3, _⟩ => fun _ _ => True
  | ⟨4, _⟩ => fun _ _ => True | ⟨5, _⟩ => fun _ _ => True | ⟨6, _⟩ => fun t X => RelOut V c t X

/-! ## The body obligation, at a generic point -/

/-- What the body is called with at point `t`, the windows one by one, -/
def bodyPre1 (c : Dev nD) (t : Fin cfg1.N) : sProp 𝕄 :=
  iprop((dat1 V Y c).Φ t.castSucc ∗ (dat1 V Y c).owesAt () t.castSucc
    ∗ (∃ d, owns (c : Thread nD τ) (ms1_0 t) fullShare ((dat1 V Y c).before 0 t d))
    ∗ (∃ d, owns (c : Thread nD τ) (ms1_1 t) fullShare ((dat1 V Y c).before 1 t d))
    ∗ (∃ d, owns (c : Thread nD τ) (ms1_2 t) fullShare ((dat1 V Y c).before 2 t d))
    ∗ (∃ d, owns (c : Thread nD τ) (ms1_3 t) fullShare ((dat1 V Y c).before 3 t d))
    ∗ (∃ d, owns (c : Thread nD τ) (ms1_4 t) fullShare ((dat1 V Y c).before 4 t d))
    ∗ (∃ d, owns (c : Thread nD τ) (ms1_5 t) fullShare ((dat1 V Y c).before 5 t d))
    ∗ (∃ X, ⌜((dat1 V Y c).toRRel fgt1 (Rl1 V c)).Finds 6 t X⌝ ∗ owns (c : Thread nD τ) (ms1_6 t) fullShare X))

/-- and what it returns. -/
def bodyPost1 (c : Dev nD) (t : Fin cfg1.N) : sProp 𝕄 :=
  iprop((dat1 V Y c).Φ t.succ ∗ (dat1 V Y c).owesAt () t.succ
    ∗ owns (c : Thread nD τ) (ms1_0 t) fullShare ((dat1 V Y c).after 0 t)
    ∗ (∃ d, owns (c : Thread nD τ) (ms1_1 t) fullShare (win1_1.fill (grid1.coords t) d (win1_1.cut (grid1.coords t) ((dat1 V Y c).after 1 t))))
    ∗ (∃ d, owns (c : Thread nD τ) (ms1_2 t) fullShare (win1_2.fill (grid1.coords t) d (win1_2.cut (grid1.coords t) ((dat1 V Y c).after 2 t))))
    ∗ (∃ d, owns (c : Thread nD τ) (ms1_3 t) fullShare (win1_3.fill (grid1.coords t) d (win1_3.cut (grid1.coords t) ((dat1 V Y c).after 3 t))))
    ∗ (∃ d, owns (c : Thread nD τ) (ms1_4 t) fullShare (win1_4.fill (grid1.coords t) d (win1_4.cut (grid1.coords t) ((dat1 V Y c).after 4 t))))
    ∗ owns (c : Thread nD τ) (ms1_5 t) fullShare ((dat1 V Y c).after 5 t)
    ∗ (∃ X, ⌜RelOut V c t X⌝ ∗ owns (c : Thread nD τ) (ms1_6 t) fullShare X))

theorem cut1_1 (c : Dev nD) (t : Fin cfg1.N) : win1_1.cut (grid1.coords t) ((dat1 V Y c).after 1 t) = iblk1 V c 1 t := win1_1.cut_fill _ _ _
theorem cut1_2 (c : Dev nD) (t : Fin cfg1.N) : win1_2.cut (grid1.coords t) ((dat1 V Y c).after 2 t) = iblk1 V c 2 t := win1_2.cut_fill _ _ _
theorem cut1_3 (c : Dev nD) (t : Fin cfg1.N) : win1_3.cut (grid1.coords t) ((dat1 V Y c).after 3 t) = iblk1 V c 3 t := win1_3.cut_fill _ _ _
theorem cut1_4 (c : Dev nD) (t : Fin cfg1.N) : win1_4.cut (grid1.coords t) ((dat1 V Y c).after 4 t) = iblk1 V c 4 t := win1_4.cut_fill _ _ _

set_option maxHeartbeats 800000 in
/-- The body at any point: the run applies at the filled blocks; the invariant hands the body its scratch buffer at some
    contents and takes it back at some contents; the core owes nothing throughout. -/
theorem sound_body1 (c : Dev nD) (t : Fin cfg1.N) :
    bodyPre1 V Y c t ⊢ wp frame (wpE (defs₀ (F := F)) Variants.none c none) Set.univ (bodyAt1 t) (fun _ => bodyPost1 V Y c t) := by
  unfold bodyPre1 bodyPost1 bodyAt1
  simp only [before1_0, before1_1, before1_2, before1_3, before1_4, before1_5]
  rw [show (dat1 V Y c).Φ t.succ = (dat1 V Y c).Φ t.castSucc from rfl,
    show (dat1 V Y c).owesAt () t.succ = (dat1 V Y c).owesAt () t.castSucc from rfl,
    after1_0, after1_5, cut1_1, cut1_2, cut1_3, cut1_4]
  rw [show (dat1 V Y c).Φ t.castSucc = Pipeline.ΦA spec1 c from rfl, PhiA1_eq]
  iintro ⟨⟨⟨HR0, HR1, HR2, HR3, HR4, HR5, HR6, HR7, HR8, HR9, HR10, HS0, HR12, HR13⟩, Hg⟩, Ho, ⟨%d0, H0⟩, ⟨%d1, H1⟩, ⟨%d2, H2⟩, ⟨%d3, H3⟩, ⟨%d4, H4⟩, ⟨%d5, H5⟩, ⟨%d6, -, H6⟩⟩
  iapply ((kernelRun1_A c (grid1.coords t) _ _ _ _ _ _ _ _ _ _ _ _ _ _ _ _ (iblk1 V c 0 t) (fld1 V c t d1) (fld2 V c t d2) (fld3 V c t d3) (fld4 V c t d4) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%fT0, HS0⟩⟩
  isplitl [HR0 HR1 HR2 HR3 HR4 HR5 HR6 HR7 HR8 HR9 HR10 HS0 HR12 HR13 Hg]
  · isplitl [HR0 HR1 HR2 HR3 HR4 HR5 HR6 HR7 HR8 HR9 HR10 HS0 HR12 HR13]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HS0]
      · iexists _; unfold owns; iexists _; isplitr
        swap; · iexact HS0
        ipureintro; rfl
      isplitl [HR12]
      · iexact HR12
      iexact HR13
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  isplitl [H5]; · iexact H5
  iexists (outAt1 V c t (fld1 V c t d1) (fld2 V c t d2) (fld3 V c t d3) (fld4 V c t d4)); isplitr
  · ipureintro; exact ⟨d1, d2, d3, d4, rfl⟩
  unfold owns outAt1 out1_A_6; iexists _; isplitr
  swap; · iexact H6
  ipureintro; exact View.read_writes_of_cover _ _ _ _ _ (cover1_A_6 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, the result's window held to the relation. -/
theorem body_obligation1 (c : Dev nD) :
    Pipeline.BodyObligationRel (dat1 (F := F) V Y c) (defs₀ (F := F)) Variants.none () Set.univ fgt1 (Rl1 V c) := fun t => by
  rw [bigSep_W1, bigSep_W1, defs₀_row1]
  exact triple_restated (sound_body1 V Y c t) rfl .rfl fun _ => .rfl

/-- The proof data read relationally, the result's window held to `RelOut`. -/
abbrev rdat1 (c : Dev nD) := (dat1 V Y c).toRRel fgt1 (Rl1 V c)

/-- The region's arrays at the exit: there are contents `X t`, each one that the body may have left at point `t`, such that
    every array is at what the exact proof data with `X` name. -/
theorem arraysAt1_exit (c : Dev nD) :
    ((rdat1 V Y c).arraysAt cfg1.N : sProp 𝕄)
      ⊢ iprop(∃ X : Fin cfg1.N → Vec F S256x1024 .bf16, ⌜∀ t, RelOut V c t (X t)⌝ ∗ (dat1 V X c).arrays ((dat1 V X c).arrAt · cfg1.N)) := by
  unfold Pipeline.RDat.arraysAt Pipeline.Dat.arrays
  refine (BI.bigSep_exists_pi Finset.univ _).trans ?_
  iintro ⟨%A, H⟩
  ihave H' := (BI.bigSep_pure_sep Finset.univ (fun w => (rdat1 V Y c).ArrAt w cfg1.N (A w)) _) $$ H
  icases H' with ⟨%hA, H⟩
  have key : ∃ X : Fin cfg1.N → Vec F S256x1024 .bf16, (∀ t, RelOut V c t (X t)) ∧ A = ((dat1 V X c).arrAt · cfg1.N) := by
    obtain ⟨X, hX, hG⟩ := (hA 6 (Finset.mem_univ _)).exists_exact
    refine ⟨X, fun t => (dat1 V Y c).toRRel_leaves (w := 6) rfl (hX t t.isLt (flush1_6 t)), funext fun w => ?_⟩
    by_cases hw : w = 6
    · subst hw; exact hG (dat1 V X c).after fun u _ _ => after1_6 V X c u
    · have hin : (cfg1.win w).isOut = false := by revert hw; revert w; decide
      have h := hA w (Finset.mem_univ _)
      rw [(rdat1 V Y c).ArrAt_in w hin] at h
      show A w = (dat1 V X c).arrAt w cfg1.N
      rw [(dat1 V X c).arrAt_in w hin]; exact h
  obtain ⟨X, hX, rfl⟩ := key
  iexists X
  isplitr
  · ipureintro; exact hX
  iexact H

end Regions

end Cert.Kernel.Own
-- ==== Proof.Kernel.Run.lean ====
/- The run of @main from the launch to the return: its host stretches and its two calls in order, the buffer contents at each
   boundary as a fold from the launch memory, and what a final state holds (`runs`): every semaphore counter zero and every
   unscoped buffer at the last boundary's contents `W9`, at SOME contents `X t` of the main call's result buffer that meet
   `RelOut`. The frame (`frame`) is read off it. Stated for any reading `F` of the float types. -/
module

public import proofs.«01_k».proof.Proof.Kernel.Quant
public import proofs.«01_k».proof.Proof.Kernel.MainRun
public import proofs.«01_k».proof.Proof.Gen.Kernel.Launch
public import proofs.«01_k».proof.Proof.Gen.Kernel.Regions
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_cst_0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v4]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_1, main_v5, main_cst_2, main_cst_3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_v6]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v7, main_v8, main_v9, main_v10, main_v11, main_v12, main_v13, main_v14]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v16, main_v17, main_v18]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v20, main_v21, main_v22, main_v23, main_v24, main_v25]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4` (region 0's entry). -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- A reference that is none of region 0's OUTPUT arrays keeps its entry contents across it: an input window's
    array is never written back (`Dat.arrAt_in`, `A_eq0`); any other buffer is left as is. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- A reference `hostOps1` does not write keeps its contents across it. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
-- contents of the main call's result buffer after each point
variable (X : Fin cfg1.N → Vec F S256x1024 .bf16)

/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) X c).arrAt w cfg1.N
theorem W8_arr (c : Dev nD) (w : Fin cfg1.W) :
    W8 m ρ X c (Proc.devRef .tc (Pipeline.arrRef spec1 w)) = (dat1 (V7 m ρ) X c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ X c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ X c (Proc.devRef .tc r) = W7 m ρ c (Proc.devRef .tc r) := by
  by_cases hw : ∃ w : Fin cfg1.W, Pipeline.arrRef spec1 w = r
  · obtain ⟨w, rfl⟩ := hw
    exact (W8_arr m ρ X c w).trans (((dat1 (V7 m ρ) X c).arrAt_in w (h w rfl) _).trans (A_eq1 (V7 m ρ) X c w))
  · exact W8_of_ne m ρ X c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ X c (Proc.devRef .tc a) = m ((c : Thread nD τ).loc a) :=
  fun a ha => (W8_of m ρ X c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ X c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) X c).arrAt w cfg1.N = V8 m ρ X c (Pipeline.arrRef spec1 w) :=
  (W8_arr m ρ X c w).symm
theorem hrest1 (c : Dev nD) : ∀ b, b ∉ Finset.univ.image (Pipeline.arrRef spec1) → V8 m ρ X c b = V7 m ρ c b :=
  fun b hb => W8_of_ne m ρ X c b fun w e => hb (Finset.mem_image.mpr ⟨w, Finset.mem_univ _, e⟩)

/-- After `hostOps2`. -/
abbrev W9 : Dev nD → Valuation τ sig (Elt F) := fun c => StableHlo.after hostOps2 (W8 m ρ X c)
/-- A reference `hostOps2` does not write keeps its contents across it. -/
theorem W9_of (c : Dev nD) (r : Ref sig .tc) (h : r ∉ hostOps2_W) : W9 m ρ X c (Proc.devRef .tc r) = W8 m ρ X c (Proc.devRef .tc r) :=
  StableHlo.after_of_writes_sub hostOps2 _ hostOps2_writes h
theorem W9_args (c : Dev nD) : ∀ a ∈ argRefs, W9 m ρ X c (Proc.devRef .tc a) = m ((c : Thread nD τ).loc a) :=
  fun a ha => (W9_of m ρ X c a (hostOps2_args a ha)).trans (W8_args m ρ X c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats (X : Fin cfg1.N → Vec F S256x1024 .bf16) : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) X c
/-- Contents of the result's buffer that nothing reads. -/
def Y0 : Fin cfg1.N → Vec F S256x1024 .bf16 := fun _ _ => (Elt.inhabited F .bf16).default
/-- The proof data read relationally: the main call's result held to `RelOut`. -/
def rdats : (p : Fin 2) → (c : Dev nD) → Pipeline.RDat τ (Elt F) Unit ℕ (UR sig nD τ) ℕ (Pipeline.pin (pcfgs (F := F)) adm p) c
  | ⟨0, _⟩ => fun c => (dat0 (V5 m ρ) c).toR
  | ⟨1, _⟩ => fun c => rdat1 (V7 m ρ) Y0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(∃ X : Fin cfg1.N → Vec F S256x1024 .bf16, ⌜∀ t, RelOut (V7 m ρ) c t (X t)⌝
  ∗ StableHlo.held (c : Thread nD τ) (Pipeline.ucRefs τ sig) (W9 m ρ X c) ∗ ∃ r, prngReg c r)

/-- The last host stretch, entered from some contents of the main call's result and left at the same. -/
def hsegLast : Pipeline.HostSeg (Name := ℕ) (U := UR sig nD τ) (pcfgs (F := F)) defs₀ 𝒱₀ L lv where
  prog := StableHlo.seq hostOps2
  pre c := iprop(∃ X : Fin cfg1.N → Vec F S256x1024 .bf16, ⌜∀ t, RelOut (V7 m ρ) c t (X t)⌝
    ∗ StableHlo.held (c : Thread nD τ) (Pipeline.ucRefs τ sig) (W8 m ρ X c) ∗ R c)
  post c := iprop(∃ X : Fin cfg1.N → Vec F S256x1024 .bf16, ⌜∀ t, RelOut (V7 m ρ) c t (X t)⌝
    ∗ StableHlo.held (c : Thread nD τ) (Pipeline.ucRefs τ sig) (W9 m ρ X c) ∗ R c)
  run c {β} k K := by
    have hrun := fun X => (hseg hostOps2 hostOps2_sub hostOps2_fresh (W8 m ρ X)).run c k K
    dsimp only [hseg, Pipeline.HostSeg.ofOps] at hrun
    iintro ⟨Hk, Hbd, ⟨%X, %hX, Hh, HR⟩, HL⟩
    iapply (hrun X)
    isplitl [Hk]
    · iintro ⟨Hbd, Hh, HR⟩
      iapply Hk
      isplitl [Hbd]; · iexact Hbd
      iexists X
      isplitr; · ipureintro; exact hX
      isplitl [Hh] <;> iassumption
    isplitl [Hbd]; · iexact Hbd
    isplitl [Hh HR]
    · isplitl [Hh] <;> iassumption
    iexact HL

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose.toR
  hwaits := Pipeline.RDat.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.RDat.arrays_of_unscopedBufs (p := 0) (pcfgs (F := F)) adm (rdats m ρ) launch0.win launch0.arr_whole c
      ((dat0 (V5 m ρ) c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ Y0) ((dat0 (V5 m ρ) c).share_full fun _ => rfl)
      (V5 m ρ c) (V6 m ρ c) ((dat0 (V5 m ρ) c).arrAt · cfg0.N) (hF0 m ρ c) (hrest0 m ρ c)
    rw [Pipeline.unscopedBufs_held] at hjoin
    refine (sep_mono (Entails.of_eq ((dat0 (V5 m ρ) c).toR_arraysAt_eq cfg0.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) Y0 c).toRRel
  hwaits := Pipeline.RDat.hwaits_of_owed_zero _ _ _ _ L lv 1 fun _ _ => rfl
  pre c := iprop(StableHlo.held (c : Thread nD τ) (Pipeline.ucRefs τ sig) (W7 m ρ c) ∗ R c)
  post c := iprop(∃ X : Fin cfg1.N → Vec F S256x1024 .bf16, ⌜∀ t, RelOut (V7 m ρ) c t (X t)⌝
    ∗ StableHlo.held (c : Thread nD τ) (Pipeline.ucRefs τ sig) (W8 m ρ X c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.RDat.arrays_of_unscopedBufs (p := 1) (pcfgs (F := F)) adm (rdats m ρ) launch1.win launch1.arr_whole c
      ((dat1 (V7 m ρ) Y0 c).share_full fun _ => rfl) (V7 m ρ c) (A_eq1 (V7 m ρ) Y0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun X => Pipeline.unscopedBufs_of_arrays (p := 1) (pcfgs (F := F)) adm (Ix := Unit) (Name := ℕ) (U := UR sig nD τ) (Lvl := ℕ)
      launch1.win launch1.arr_whole c (pdats m ρ X) ((dat1 (V7 m ρ) X c).share_full fun _ => rfl)
      (V7 m ρ c) (V8 m ρ X c) ((dat1 (V7 m ρ) X c).arrAt · cfg1.N) (hF1 m ρ X c) (hrest1 m ρ X c)
    simp only [Pipeline.unscopedBufs_held] at hjoin
    refine (sep_mono (arraysAt1_exit (V7 m ρ) Y0 c) .rfl).trans ?_
    iintro ⟨⟨%X, %hX, Ha⟩, HO, HY, Hrest⟩
    imodintro
    iexists X
    isplitr; · ipureintro; exact hX
    isplitl [Ha Hrest]
    · iapply (hjoin X)
      isplitl [Ha]; · iexact Ha
      iexact Hrest
    isplitl [HY]; · iexact HY
    unfold Pipeline.RDat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hsegLast m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the TensorCores
    terminates, nothing faulting, and every final state has every unscoped buffer at the last boundary's contents, at some
    contents of the main call's result that meet `RelOut`, and every semaphore counter of the machine at zero. -/
theorem runs : θ_run defs (onTc (τ := τ) (main (F := F))) ⟨m, fun _ => 0, ρ⟩ (fun r => (∀ c : Dev nD,
      ∃ X : Fin cfg1.N → Vec F S256x1024 .bf16, (∀ t, RelOut (V7 m ρ) c t (X t))
        ∧ ∀ b ∈ Pipeline.ucRefs τ sig, r.2.mem (((c : Thread nD τ)).1, b) = W9 m ρ X c b)
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.RDat.Seg.post, hsegLast]
      iintro ⟨%X, %hX, Hh, Hp, HO⟩
      isplitl [Hh Hp]
      · iexists X
        isplitr; · ipureintro; exact hX
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ X : Fin cfg1.N → Vec F S256x1024 .bf16, (∀ t, RelOut (V7 m ρ) c t (X t))
        ∧ ∀ b ∈ Pipeline.ucRefs τ sig, s.mem (((c : Thread nD τ)).1, b) = W9 m ρ X c b)
    (hfin := fun c s' => by
      iintro ⟨⟨%X, %hX, Hh, -⟩, HSI⟩
      unfold StableHlo.held
      imodintro
      ihave H := (pointsTo_read_all (Pipeline.ucRefs τ sig) (fun b => (((c : Thread nD τ)).1, b)) (W9 m ρ X c) s') $$ [Hh HSI]
      · isplitl [Hh] <;> iassumption
      icases H with ⟨%h, HSI⟩
      isplitr; · ipureintro; exact ⟨X, hX, h⟩
      iexact HSI)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r hr => ⟨fun c => by
    obtain ⟨X, -, h⟩ := hr.1 c
    have hb := fun (a : Ref sig .tc) (ha : a ∈ argRefs) (hu : ¬ (Proc.devRef .tc a : DevRef τ sig).isScoped) =>
      (h _ (mem_uc a hu)).trans (W9_args m ρ X c a ha)
    exact ⟨hb main_arg0 (by decide) (by decide), hb main_arg1 (by decide) (by decide), hb main_arg2 (by decide) (by decide), hb main_arg3 (by decide) (by decide), hb main_arg4 (by decide) (by decide), hb main_arg5 (by decide) (by decide), hb main_arg6 (by decide) (by decide), hb main_arg7 (by decide) (by decide), hb main_arg8 (by decide) (by decide)⟩, hr.2⟩) (runs m ρ)

end Cert.Kernel.Own
-- ==== Proof.KernelIdeal.Quant.lean ====
/- The quantising call (region 0 of the program): its blocks, the run of its body with the pieces it stores, and its
   proof data. Stated for any reading `F` of the float types and at any contents `V` of the buffers at its entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # The quantising call, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 5, through which its contents are stated (`View.read_writes_of_cover`: the
    choice does not matter). -/
abbrev VO0_5 : View sig .tc .vmem S1120x128 .i8 := (Memref.whole cc0_stg5_0 : Memref sig .tc .vmem S1120x128 .i8).view
/-- One staging buffer of output window 6, through which its contents are stated (`View.read_writes_of_cover`: the
    choice does not matter). -/
abbrev VO0_6 : View sig .tc .vmem S140x128 .fp8e4m3 := (Memref.whole cc0_stg6_0 : Memref sig .tc .vmem S140x128 .fp8e4m3).view
/-- One staging buffer of output window 7, through which its contents are stated (`View.read_writes_of_cover`: the
    choice does not matter). -/
abbrev VO0_7 : View sig .tc .vmem S2304x128 .bf16 := (Memref.whole cc0_stg7_0 : Memref sig .tc .vmem S2304x128 .bf16).view
/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2240x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2240 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x2240 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1120x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S140x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2304x128 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2240x128 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_stg0_0), ((c : Thread nD τ).loc cc1_stg0_0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 3000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) :
    Σ' (L5 : List (View.Piece (Elt F) S1120x128 .i8)), Σ' (L6 : List (View.Piece (Elt F) S140x128 .fp8e4m3)), Σ' (L7 : List (View.Piece (Elt F) S2304x128 .bf16)), { LT0 : List (View.Piece (Elt F) S2240x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LT0)) -∗ K ⟨⟩))
          ⊢ wp frame (wpE (defs₀ (F := F)) Variants.none c none) E (cc0_quant i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_quant_eq_skeleton]; unfold cc0_quant_skel
    simp only [k0_part127_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part128_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    iexists _; iexact HS0

/-- The run's pieces for output 5 tile its block (35 stores of `S32x128`, checked by the kernel's evaluation: Lib/Ring.lean `Piece.tiledL`, linear in the pieces, through a loop's `@[irreducible]` trip theorem too), so they cover it. -/
theorem cover0_A_5 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) (y : S1120x128.Idx) :
    ∃ pc ∈ (kernelRun0_A c i arg1 harg1 arg2 harg2 arg3 harg3 arg4 harg4 arg5 harg5 arg6 harg6 arg7 harg7 arg8 harg8 arg9 harg9 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).1 S32x128.size (by sl_kernel_rfl) y

/-- What the run leaves in output 5's staging buffer: its pieces read back over junk. -/
def out0_A_5 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) : Vec F S1120x128 .i8 :=
  VO0_5.read (Elt F) (VO0_5.writes (Elt F) VO0_5.junk (kernelRun0_A c i arg1 harg1 arg2 harg2 arg3 harg3 arg4 harg4 arg5 harg5 arg6 harg6 arg7 harg7 arg8 harg8 arg9 harg9 x0 x1 x2 x3 x4).1)

/-- The run's pieces for output 6 tile its block (35 stores of `S4x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) (y : S140x128.Idx) :
    ∃ pc ∈ (kernelRun0_A c i arg1 harg1 arg2 harg2 arg3 harg3 arg4 harg4 arg5 harg5 arg6 harg6 arg7 harg7 arg8 harg8 arg9 harg9 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 x0 x1 x2 x3 x4).2.1 S4x128.size (by sl_kernel_rfl) y

/-- What the run leaves in output 6's staging buffer: its pieces read back over junk. -/
def out0_A_6 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) : Vec F S140x128 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 x0 x1 x2 x3 x4).2.1)

/-- The run's pieces for output 7 are of SEVERAL sizes (37 stores of `S32x128`, `S64x128`): cut into blocks of `![32, 128]` they tile its block (checked by the kernel's evaluation: Lib/Ring.lean `Piece.tiledBy`), so they cover it. -/
theorem cover0_A_7 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) (y : S2304x128.Idx) :
    ∃ pc ∈ (kernelRun0_A c i arg1 harg1 arg2 harg2 arg3 harg3 arg4 harg4 arg5 harg5 arg6 harg6 arg7 harg7 arg8 harg8 arg9 harg9 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 x0 x1 x2 x3 x4).2.2.1 ![32, 128] (by sl_kernel_rfl) y

/-- What the run leaves in output 7's staging buffer: its pieces read back over junk. -/
def out0_A_7 (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16) : Vec F S2304x128 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 x0 x1 x2 x3 x4).2.2.1)

/-! ## What the outputs hold after each point -/

/-- What the outputs' staging buffers hold after the body at point `t` (as a tuple, in window order): the run's contents at
    the point's memrefs and input blocks. -/
def outsAt0 (c : Dev nD) (t : Fin cfg0.N) : Vec F S1120x128 .i8 × Vec F S140x128 .fp8e4m3 × Vec F S2304x128 .bf16 :=
  (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t).1
    | ⟨6, _⟩ => (outsAt0 V c t).2.1
    | ⟨7, _⟩ => (outsAt0 V c t).2.2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t).1 := by dsimp only [dat0]
theorem after0_6 (c : Dev nD) (t : Fin cfg0.N) : (dat0 V c).after 6 t = (outsAt0 V c t).2.1 := by dsimp only [dat0]
theorem after0_7 (c : Dev nD) (t : Fin cfg0.N) : (dat0 V c).after 7 t = (outsAt0 V c t).2.2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  rw [show (dat0 V c).Φ t.castSucc = Pipeline.ΦA spec0 c from rfl, PhiA0_eq]
  unfold outsAt0
  unfold out0_A_5 out0_A_6 out0_A_7; (try dsimp only)
  iintro ⟨⟨⟨HS0, HR1, HR2, HR3, HR4, HR5, HR6, HR7, HR8, HR9, HR10, HR11, HR12, HR13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ (iblk0 V c 0 t) (iblk0 V c 1 t) (iblk0 V c 2 t) (iblk0 V c 3 t) (iblk0 V c 4 t)).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS0]; · iexact HS0
  iintro ⟨H0, H1, H2, H3, H4, ⟨%e5, H5⟩, ⟨%e6, H6⟩, ⟨%e7, H7⟩, ⟨%fT0, HS0⟩⟩
  isplitl [HS0 HR1 HR2 HR3 HR4 HR5 HR6 HR7 HR8 HR9 HR10 HR11 HR12 HR13 Hg]
  · isplitl [HS0 HR1 HR2 HR3 HR4 HR5 HR6 HR7 HR8 HR9 HR10 HR11 HR12 HR13]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      iexact HR13
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _)
  unfold owns; iexists _; isplitr
  swap; · iexact H7
  ipureintro; exact View.read_writes_of_cover _ _ _ _ _ (cover0_A_7 c _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Own
-- ==== Proof.KernelIdeal.MainRun.lean ====
/- The main call (region 1 of the program): its blocks, the run of its body with the pieces it stores, and its proof data.
   The grid has one point more than whole blocks fit, so the last block overhangs the arrays: a fetch there leaves the tail
   of a staging buffer at words that nothing names, and the body computes from them too. What the body leaves in the
   result's buffer is therefore held to a relation, `RelOut`: the run's output at the blocks, each filled out by SOME
   words. Stated for any reading `F` of the float types and at any contents `V` of the buffers at the region's entry. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when the region is entered
variable (V : (c : Dev nD) → (b : Ref sig .tc) → Buf (Elt F) ((c : Thread nD τ).loc b))
/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 6, through which its contents are stated (`View.read_writes_of_cover`: the
    choice does not matter). -/
abbrev VO1_6 : View sig .tc .vmem S256x1024 .bf16 := (Memref.whole cc1_stg6_0 : Memref sig .tc .vmem S256x1024 .bf16).view
/-- Each window's current staging memref at point `t`, spelled as the pipeline passes it (`bodyAt1`), and its wholeness. -/
abbrev ms1_0 (t : Fin cfg1.N) : Memref sig .tc .smem S3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1120x256 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S140x256 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2304x1024 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x1024 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S2304x256 .bf16 := Memref.whole cc1_scratch0

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1100000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun1_A (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec F S3 .f32) (x1 : Vec F S1120x256 .i8) (x2 : Vec F S140x256 .fp8e4m3) (x3 : Vec F S32x256 .bf16) (x4 : Vec F S1x256 .f32) (x5 : Vec F S2304x1024 .bf16) :
    Σ' (L6 : List (View.Piece (Elt F) S256x1024 .bf16)), { LT0 : List (View.Piece (Elt F) S2304x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0)) -∗ K ⟨⟩))
          ⊢ wp frame (wpE (defs₀ (F := F)) Variants.none c none) E (cc1_main i arg1 harg1 arg2 harg2 arg3 harg3 arg4 harg4 arg5 harg5 arg6 harg6 arg7 harg7 arg8 harg8) K } := by
  refine ⟨?_, ?_, fun E K => ?run⟩
  case run =>
    simp only [cc1_main_eq_skeleton]; unfold cc1_main_skel
    simp only [k1_part41_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton, k1_part34_eq_skeleton, k1_part35_eq_skeleton, k1_part36_eq_skeleton, k1_part37_eq_skeleton, k1_part38_eq_skeleton, k1_part39_eq_skeleton, k1_part40_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; iexact HS0

/-- The run's pieces for output 6 tile its block (1 store of `S256x1024`, checked by the kernel's evaluation: Lib/Ring.lean `Piece.tiledL`, linear in the pieces, through a loop's `@[irreducible]` trip theorem too), so they cover it. -/
theorem cover1_A_6 (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec F S3 .f32) (x1 : Vec F S1120x256 .i8) (x2 : Vec F S140x256 .fp8e4m3) (x3 : Vec F S32x256 .bf16) (x4 : Vec F S1x256 .f32) (x5 : Vec F S2304x1024 .bf16) (y : S256x1024.Idx) :
    ∃ pc ∈ (kernelRun1_A c i arg1 harg1 arg2 harg2 arg3 harg3 arg4 harg4 arg5 harg5 arg6 harg6 arg7 harg7 arg8 harg8 x0 x1 x2 x3 x4 x5).1, y ∈ pc.1.set :=
  View.cover_of_tiledL (kernelRun1_A c i arg1 harg1 arg2 harg2 arg3 harg3 arg4 harg4 arg5 harg5 arg6 harg6 arg7 harg7 arg8 harg8 x0 x1 x2 x3 x4 x5).1 S256x1024.size (by sl_kernel_rfl) y

/-- What the run leaves in output 6's staging buffer: its pieces read back over junk. -/
def out1_A_6 (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec F S3 .f32) (x1 : Vec F S1120x256 .i8) (x2 : Vec F S140x256 .fp8e4m3) (x3 : Vec F S32x256 .bf16) (x4 : Vec F S1x256 .f32) (x5 : Vec F S2304x1024 .bf16) : Vec F S256x1024 .bf16 :=
  VO1_6.read (Elt F) (VO1_6.writes (Elt F) VO1_6.junk (kernelRun1_A c i arg1 harg1 arg2 harg2 arg3 harg3 arg4 harg4 arg5 harg5 arg6 harg6 arg7 harg7 arg8 harg8 x0 x1 x2 x3 x4 x5).1)

/-! ## What the body may leave -/

/-- Input windows 1 to 4 cut their transfers at the last point: the staging buffer holds the block on the part inside the
    array, and `d` elsewhere. -/
abbrev fld1 (c : Dev nD) (t : Fin cfg1.N) (d : S1120x256.Idx → Elt F .i8) : Vec F S1120x256 .i8 := win1_1.fill (grid1.coords t) d (iblk1 V c 1 t)
abbrev fld2 (c : Dev nD) (t : Fin cfg1.N) (d : S140x256.Idx → Elt F .fp8e4m3) : Vec F S140x256 .fp8e4m3 := win1_2.fill (grid1.coords t) d (iblk1 V c 2 t)
abbrev fld3 (c : Dev nD) (t : Fin cfg1.N) (d : S32x256.Idx → Elt F .bf16) : Vec F S32x256 .bf16 := win1_3.fill (grid1.coords t) d (iblk1 V c 3 t)
abbrev fld4 (c : Dev nD) (t : Fin cfg1.N) (d : S1x256.Idx → Elt F .f32) : Vec F S1x256 .f32 := win1_4.fill (grid1.coords t) d (iblk1 V c 4 t)

/-- The run's output at point `t`, the staging buffers of windows 1 to 4 at `x1` … `x4`. -/
abbrev outAt1 (c : Dev nD) (t : Fin cfg1.N) (x1 : Vec F S1120x256 .i8) (x2 : Vec F S140x256 .fp8e4m3) (x3 : Vec F S32x256 .bf16) (x4 : Vec F S1x256 .f32) : Vec F S256x1024 .bf16 :=
  out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) (iblk1 V c 0 t) x1 x2 x3 x4 (iblk1 V c 5 t)

/-- What the body may leave in the result's buffer at point `t`: the run's output, the cut blocks filled out by some words. -/
def RelOut (c : Dev nD) (t : Fin cfg1.N) (X : Vec F S256x1024 .bf16) : Prop :=
  ∃ d1 d2 d3 d4, X = outAt1 V c t (fld1 V c t d1) (fld2 V c t d2) (fld3 V c t d3) (fld4 V c t d4)

/-! ## The pipeline's proof data -/

variable (Y : Fin cfg1.N → Vec F S256x1024 .bf16)

/-- The proof data of pipeline 1 on core `c`: the arrays as the region finds them (`V`); after the body at point `t` each
    input's buffer at its block (the cut ones filled out by a word that nothing reads) and the result's at `Y t`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => fld1 V c t (fun _ => (Elt.inhabited F .i8).default)
    | ⟨2, _⟩ => fld2 V c t (fun _ => (Elt.inhabited F .fp8e4m3).default)
    | ⟨3, _⟩ => fld3 V c t (fun _ => (Elt.inhabited F .bf16).default)
    | ⟨4, _⟩ => fld4 V c t (fun _ => (Elt.inhabited F .f32).default)
    | ⟨5, _⟩ => iblk1 V c 5 t
    | ⟨6, _⟩ => Y t
  Φ _ := Pipeline.ΦA spec1 c
  q _ := fullShare
  owed _ := 0

/-- The proof data's arrays are the region-entry contents. -/
theorem A_eq1 (c : Dev nD) (w : Fin cfg1.W) : (dat1 V Y c).A w = V c (Pipeline.arrRef spec1 w) := by
  dsimp only [dat1]

theorem after1_0 (c : Dev nD) (t : Fin cfg1.N) : (dat1 V Y c).after 0 t = iblk1 V c 0 t := by dsimp only [dat1]
theorem after1_5 (c : Dev nD) (t : Fin cfg1.N) : (dat1 V Y c).after 5 t = iblk1 V c 5 t := by dsimp only [dat1]
theorem after1_6 (c : Dev nD) (t : Fin cfg1.N) : (dat1 V Y c).after 6 t = Y t := by dsimp only [dat1]

/-- What the body finds in each input's buffer: the block, or the block filled out by `d`. -/
theorem before1_0 (c : Dev nD) (t : Fin cfg1.N) (d) : (dat1 V Y c).before 0 t d = iblk1 V c 0 t :=
  before1_0_of V (dat1 V Y c) (A_eq1 V Y c 0) (after1_0 V Y c) t d
theorem before1_1 (c : Dev nD) (t : Fin cfg1.N) (d) : (dat1 V Y c).before 1 t d = fld1 V c t d := by
  unfold Dat.before; rw [if_pos (fetch1_1 t)]; rfl
theorem before1_2 (c : Dev nD) (t : Fin cfg1.N) (d) : (dat1 V Y c).before 2 t d = fld2 V c t d := by
  unfold Dat.before; rw [if_pos (fetch1_2 t)]; rfl
theorem before1_3 (c : Dev nD) (t : Fin cfg1.N) (d) : (dat1 V Y c).before 3 t d = fld3 V c t d := by
  unfold Dat.before; rw [if_pos (fetch1_3 t)]; rfl
theorem before1_4 (c : Dev nD) (t : Fin cfg1.N) (d) : (dat1 V Y c).before 4 t d = fld4 V c t d := by
  unfold Dat.before; rw [if_pos (fetch1_4 t)]; rfl
theorem before1_5 (c : Dev nD) (t : Fin cfg1.N) (d) : (dat1 V Y c).before 5 t d = iblk1 V c 5 t :=
  before1_5_of V (dat1 V Y c) (A_eq1 V Y c 5) (after1_5 V Y c) t d

/-- The result's window is the one held to a relation, -/
def fgt1 (w : Fin cfg1.W) : Bool := match w with
  | ⟨0, _⟩ => false | ⟨1, _⟩ => false | ⟨2, _⟩ => false | ⟨3, _⟩ => false | ⟨4, _⟩ => false | ⟨5, _⟩ => false | ⟨6, _⟩ => true
/-- and the relation. -/
def Rl1 (c : Dev nD) (w : Fin cfg1.W) : Fin cfg1.N → ((cfg1.win w).block.Idx → Elt F (cfg1.win w).elt) → Prop := match w with
  | ⟨0, _⟩ => fun _ _ => True | ⟨1, _⟩ => fun _ _ => True | ⟨2, _⟩ => fun _ _ => True | ⟨3, _⟩ => fun _ _ => True
  | ⟨4, _⟩ => fun _ _ => True | ⟨5, _⟩ => fun _ _ => True | ⟨6, _⟩ => fun t X => RelOut V c t X

/-! ## The body obligation, at a generic point -/

/-- What the body is called with at point `t`, the windows one by one, -/
def bodyPre1 (c : Dev nD) (t : Fin cfg1.N) : sProp 𝕄 :=
  iprop((dat1 V Y c).Φ t.castSucc ∗ (dat1 V Y c).owesAt () t.castSucc
    ∗ (∃ d, owns (c : Thread nD τ) (ms1_0 t) fullShare ((dat1 V Y c).before 0 t d))
    ∗ (∃ d, owns (c : Thread nD τ) (ms1_1 t) fullShare ((dat1 V Y c).before 1 t d))
    ∗ (∃ d, owns (c : Thread nD τ) (ms1_2 t) fullShare ((dat1 V Y c).before 2 t d))
    ∗ (∃ d, owns (c : Thread nD τ) (ms1_3 t) fullShare ((dat1 V Y c).before 3 t d))
    ∗ (∃ d, owns (c : Thread nD τ) (ms1_4 t) fullShare ((dat1 V Y c).before 4 t d))
    ∗ (∃ d, owns (c : Thread nD τ) (ms1_5 t) fullShare ((dat1 V Y c).before 5 t d))
    ∗ (∃ X, ⌜((dat1 V Y c).toRRel fgt1 (Rl1 V c)).Finds 6 t X⌝ ∗ owns (c : Thread nD τ) (ms1_6 t) fullShare X))

/-- and what it returns. -/
def bodyPost1 (c : Dev nD) (t : Fin cfg1.N) : sProp 𝕄 :=
  iprop((dat1 V Y c).Φ t.succ ∗ (dat1 V Y c).owesAt () t.succ
    ∗ owns (c : Thread nD τ) (ms1_0 t) fullShare ((dat1 V Y c).after 0 t)
    ∗ (∃ d, owns (c : Thread nD τ) (ms1_1 t) fullShare (win1_1.fill (grid1.coords t) d (win1_1.cut (grid1.coords t) ((dat1 V Y c).after 1 t))))
    ∗ (∃ d, owns (c : Thread nD τ) (ms1_2 t) fullShare (win1_2.fill (grid1.coords t) d (win1_2.cut (grid1.coords t) ((dat1 V Y c).after 2 t))))
    ∗ (∃ d, owns (c : Thread nD τ) (ms1_3 t) fullShare (win1_3.fill (grid1.coords t) d (win1_3.cut (grid1.coords t) ((dat1 V Y c).after 3 t))))
    ∗ (∃ d, owns (c : Thread nD τ) (ms1_4 t) fullShare (win1_4.fill (grid1.coords t) d (win1_4.cut (grid1.coords t) ((dat1 V Y c).after 4 t))))
    ∗ owns (c : Thread nD τ) (ms1_5 t) fullShare ((dat1 V Y c).after 5 t)
    ∗ (∃ X, ⌜RelOut V c t X⌝ ∗ owns (c : Thread nD τ) (ms1_6 t) fullShare X))

theorem cut1_1 (c : Dev nD) (t : Fin cfg1.N) : win1_1.cut (grid1.coords t) ((dat1 V Y c).after 1 t) = iblk1 V c 1 t := win1_1.cut_fill _ _ _
theorem cut1_2 (c : Dev nD) (t : Fin cfg1.N) : win1_2.cut (grid1.coords t) ((dat1 V Y c).after 2 t) = iblk1 V c 2 t := win1_2.cut_fill _ _ _
theorem cut1_3 (c : Dev nD) (t : Fin cfg1.N) : win1_3.cut (grid1.coords t) ((dat1 V Y c).after 3 t) = iblk1 V c 3 t := win1_3.cut_fill _ _ _
theorem cut1_4 (c : Dev nD) (t : Fin cfg1.N) : win1_4.cut (grid1.coords t) ((dat1 V Y c).after 4 t) = iblk1 V c 4 t := win1_4.cut_fill _ _ _

set_option maxHeartbeats 800000 in
/-- The body at any point: the run applies at the filled blocks; the invariant hands the body its scratch buffer at some
    contents and takes it back at some contents; the core owes nothing throughout. -/
theorem sound_body1 (c : Dev nD) (t : Fin cfg1.N) :
    bodyPre1 V Y c t ⊢ wp frame (wpE (defs₀ (F := F)) Variants.none c none) Set.univ (bodyAt1 t) (fun _ => bodyPost1 V Y c t) := by
  unfold bodyPre1 bodyPost1 bodyAt1
  simp only [before1_0, before1_1, before1_2, before1_3, before1_4, before1_5]
  rw [show (dat1 V Y c).Φ t.succ = (dat1 V Y c).Φ t.castSucc from rfl,
    show (dat1 V Y c).owesAt () t.succ = (dat1 V Y c).owesAt () t.castSucc from rfl,
    after1_0, after1_5, cut1_1, cut1_2, cut1_3, cut1_4]
  rw [show (dat1 V Y c).Φ t.castSucc = Pipeline.ΦA spec1 c from rfl, PhiA1_eq]
  iintro ⟨⟨⟨HR0, HR1, HR2, HR3, HR4, HR5, HR6, HR7, HR8, HR9, HR10, HS0, HR12, HR13⟩, Hg⟩, Ho, ⟨%d0, H0⟩, ⟨%d1, H1⟩, ⟨%d2, H2⟩, ⟨%d3, H3⟩, ⟨%d4, H4⟩, ⟨%d5, H5⟩, ⟨%d6, -, H6⟩⟩
  iapply ((kernelRun1_A c (grid1.coords t) _ _ _ _ _ _ _ _ _ _ _ _ _ _ _ _ (iblk1 V c 0 t) (fld1 V c t d1) (fld2 V c t d2) (fld3 V c t d3) (fld4 V c t d4) (iblk1 V c 5 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%fT0, HS0⟩⟩
  isplitl [HR0 HR1 HR2 HR3 HR4 HR5 HR6 HR7 HR8 HR9 HR10 HS0 HR12 HR13 Hg]
  · isplitl [HR0 HR1 HR2 HR3 HR4 HR5 HR6 HR7 HR8 HR9 HR10 HS0 HR12 HR13]
    · isplitl [HR0]
      · iexact HR0
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HS0]
      · iexists _; unfold owns; iexists _; isplitr
        swap; · iexact HS0
        ipureintro; rfl
      isplitl [HR12]
      · iexact HR12
      iexact HR13
    iexact Hg
  isplitl [Ho]; · iexact Ho
  isplitl [H0]; · iexact H0
  isplitl [H1]; · iexists d1; iexact H1
  isplitl [H2]; · iexists d2; iexact H2
  isplitl [H3]; · iexists d3; iexact H3
  isplitl [H4]; · iexists d4; iexact H4
  isplitl [H5]; · iexact H5
  iexists (outAt1 V c t (fld1 V c t d1) (fld2 V c t d2) (fld3 V c t d3) (fld4 V c t d4)); isplitr
  · ipureintro; exact ⟨d1, d2, d3, d4, rfl⟩
  unfold owns outAt1 out1_A_6; iexists _; isplitr
  swap; · iexact H6
  ipureintro; exact View.read_writes_of_cover _ _ _ _ _ (cover1_A_6 c _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, the result's window held to the relation. -/
theorem body_obligation1 (c : Dev nD) :
    Pipeline.BodyObligationRel (dat1 (F := F) V Y c) (defs₀ (F := F)) Variants.none () Set.univ fgt1 (Rl1 V c) := fun t => by
  rw [bigSep_W1, bigSep_W1, defs₀_row1]
  exact triple_restated (sound_body1 V Y c t) rfl .rfl fun _ => .rfl

/-- The proof data read relationally, the result's window held to `RelOut`. -/
abbrev rdat1 (c : Dev nD) := (dat1 V Y c).toRRel fgt1 (Rl1 V c)

/-- The region's arrays at the exit: there are contents `X t`, each one that the body may have left at point `t`, such that
    every array is at what the exact proof data with `X` name. -/
theorem arraysAt1_exit (c : Dev nD) :
    ((rdat1 V Y c).arraysAt cfg1.N : sProp 𝕄)
      ⊢ iprop(∃ X : Fin cfg1.N → Vec F S256x1024 .bf16, ⌜∀ t, RelOut V c t (X t)⌝ ∗ (dat1 V X c).arrays ((dat1 V X c).arrAt · cfg1.N)) := by
  unfold Pipeline.RDat.arraysAt Pipeline.Dat.arrays
  refine (BI.bigSep_exists_pi Finset.univ _).trans ?_
  iintro ⟨%A, H⟩
  ihave H' := (BI.bigSep_pure_sep Finset.univ (fun w => (rdat1 V Y c).ArrAt w cfg1.N (A w)) _) $$ H
  icases H' with ⟨%hA, H⟩
  have key : ∃ X : Fin cfg1.N → Vec F S256x1024 .bf16, (∀ t, RelOut V c t (X t)) ∧ A = ((dat1 V X c).arrAt · cfg1.N) := by
    obtain ⟨X, hX, hG⟩ := (hA 6 (Finset.mem_univ _)).exists_exact
    refine ⟨X, fun t => (dat1 V Y c).toRRel_leaves (w := 6) rfl (hX t t.isLt (flush1_6 t)), funext fun w => ?_⟩
    by_cases hw : w = 6
    · subst hw; exact hG (dat1 V X c).after fun u _ _ => after1_6 V X c u
    · have hin : (cfg1.win w).isOut = false := by revert hw; revert w; decide
      have h := hA w (Finset.mem_univ _)
      rw [(rdat1 V Y c).ArrAt_in w hin] at h
      show A w = (dat1 V X c).arrAt w cfg1.N
      rw [(dat1 V X c).arrAt_in w hin]; exact h
  obtain ⟨X, hX, rfl⟩ := key
  iexists X
  isplitr
  · ipureintro; exact hX
  iexact H

end Regions

end Cert.KernelIdeal.Own
-- ==== Proof.KernelIdeal.Run.lean ====
/- The run of @main from the launch to the return: its host stretches and its two calls in order, the buffer contents at each
   boundary as a fold from the launch memory, and what a final state holds (`runs`): every semaphore counter zero and every
   unscoped buffer at the last boundary's contents `W9`, at SOME contents `X t` of the main call's result buffer that meet
   `RelOut`. The frame (`frame`) is read off it. Stated for any reading `F` of the float types. -/
module

public import proofs.«01_k».proof.Proof.KernelIdeal.Quant
public import proofs.«01_k».proof.Proof.KernelIdeal.MainRun
public import proofs.«01_k».proof.Proof.Gen.KernelIdeal.Launch
public import proofs.«01_k».proof.Proof.Gen.KernelIdeal.Regions
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_cst, main_v3, main_cst_0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v4]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_1, main_v5, main_cst_2, main_cst_3]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_v6]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v7, main_v8, main_v9, main_v10, main_v11, main_v12, main_v13, main_v14]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v16, main_v17, main_v18]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v20, main_v21, main_v22, main_v23, main_v24, main_v25]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4` (region 0's entry). -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- A reference that is none of region 0's OUTPUT arrays keeps its entry contents across it: an input window's
    array is never written back (`Dat.arrAt_in`, `A_eq0`); any other buffer is left as is. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1` (region 1's entry). -/
abbrev W7 : Dev nD → Valuation τ sig (Elt F) := fun c => StableHlo.after hostOps1 (W6 m ρ c)
/-- A reference `hostOps1` does not write keeps its contents across it. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
/-- The same read at the TensorCore's references (what region 1's proof data take). -/
abbrev V7 : (c : Dev nD) → (b : Ref sig .tc) → Buf (Elt F) ((c : Thread nD τ).loc b) := fun c b => W7 m ρ c b
-- contents of the main call's result buffer after each point
variable (X : Fin cfg1.N → Vec F S256x1024 .bf16)

/-- At region 1's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec1 c (W7 m ρ c) fun w => (dat1 (V7 m ρ) X c).arrAt w cfg1.N
theorem W8_arr (c : Dev nD) (w : Fin cfg1.W) :
    W8 m ρ X c (Proc.devRef .tc (Pipeline.arrRef spec1 w)) = (dat1 (V7 m ρ) X c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ X c (Proc.devRef .tc b) = W7 m ρ c (Proc.devRef .tc b) := by
  unfold W8; exact Pipeline.withArrays_of_ne spec1 c _ _ b hb
/-- A reference that is none of region 1's OUTPUT arrays keeps its entry contents across it: an input window's
    array is never written back (`Dat.arrAt_in`, `A_eq1`); any other buffer is left as is. -/
theorem W8_of (c : Dev nD) (r : Ref sig .tc) (h : ∀ w : Fin cfg1.W, Pipeline.arrRef spec1 w = r → (cfg1.win w).isOut = false) :
    W8 m ρ X c (Proc.devRef .tc r) = W7 m ρ c (Proc.devRef .tc r) := by
  by_cases hw : ∃ w : Fin cfg1.W, Pipeline.arrRef spec1 w = r
  · obtain ⟨w, rfl⟩ := hw
    exact (W8_arr m ρ X c w).trans (((dat1 (V7 m ρ) X c).arrAt_in w (h w rfl) _).trans (A_eq1 (V7 m ρ) X c w))
  · exact W8_of_ne m ρ X c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W8_args (c : Dev nD) : ∀ a ∈ argRefs, W8 m ρ X c (Proc.devRef .tc a) = m ((c : Thread nD τ).loc a) :=
  fun a ha => (W8_of m ρ X c a (argsIn1 a ha)).trans (W7_args m ρ c a ha)
/-- The same read at the TensorCore's references (region 1's exit contents). -/
abbrev V8 : (c : Dev nD) → (b : Ref sig .tc) → Buf (Elt F) ((c : Thread nD τ).loc b) := fun c b => W8 m ρ X c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V7 m ρ) X c).arrAt w cfg1.N = V8 m ρ X c (Pipeline.arrRef spec1 w) :=
  (W8_arr m ρ X c w).symm
theorem hrest1 (c : Dev nD) : ∀ b, b ∉ Finset.univ.image (Pipeline.arrRef spec1) → V8 m ρ X c b = V7 m ρ c b :=
  fun b hb => W8_of_ne m ρ X c b fun w e => hb (Finset.mem_image.mpr ⟨w, Finset.mem_univ _, e⟩)

/-- After `hostOps2`. -/
abbrev W9 : Dev nD → Valuation τ sig (Elt F) := fun c => StableHlo.after hostOps2 (W8 m ρ X c)
/-- A reference `hostOps2` does not write keeps its contents across it. -/
theorem W9_of (c : Dev nD) (r : Ref sig .tc) (h : r ∉ hostOps2_W) : W9 m ρ X c (Proc.devRef .tc r) = W8 m ρ X c (Proc.devRef .tc r) :=
  StableHlo.after_of_writes_sub hostOps2 _ hostOps2_writes h
theorem W9_args (c : Dev nD) : ∀ a ∈ argRefs, W9 m ρ X c (Proc.devRef .tc a) = m ((c : Thread nD τ).loc a) :=
  fun a ha => (W9_of m ρ X c a (hostOps2_args a ha)).trans (W8_args m ρ X c a ha)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats (X : Fin cfg1.N → Vec F S256x1024 .bf16) : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) X c
/-- Contents of the result's buffer that nothing reads. -/
def Y0 : Fin cfg1.N → Vec F S256x1024 .bf16 := fun _ _ => (Elt.inhabited F .bf16).default
/-- The proof data read relationally: the main call's result held to `RelOut`. -/
def rdats : (p : Fin 2) → (c : Dev nD) → Pipeline.RDat τ (Elt F) Unit ℕ (UR sig nD τ) ℕ (Pipeline.pin (pcfgs (F := F)) adm p) c
  | ⟨0, _⟩ => fun c => (dat0 (V5 m ρ) c).toR
  | ⟨1, _⟩ => fun c => rdat1 (V7 m ρ) Y0 c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W9`, the generator register at some state. -/
abbrev Tₙ (c : Dev nD) : sProp 𝕄 := iprop(∃ X : Fin cfg1.N → Vec F S256x1024 .bf16, ⌜∀ t, RelOut (V7 m ρ) c t (X t)⌝
  ∗ StableHlo.held (c : Thread nD τ) (Pipeline.ucRefs τ sig) (W9 m ρ X c) ∗ ∃ r, prngReg c r)

/-- The last host stretch, entered from some contents of the main call's result and left at the same. -/
def hsegLast : Pipeline.HostSeg (Name := ℕ) (U := UR sig nD τ) (pcfgs (F := F)) defs₀ 𝒱₀ L lv where
  prog := StableHlo.seq hostOps2
  pre c := iprop(∃ X : Fin cfg1.N → Vec F S256x1024 .bf16, ⌜∀ t, RelOut (V7 m ρ) c t (X t)⌝
    ∗ StableHlo.held (c : Thread nD τ) (Pipeline.ucRefs τ sig) (W8 m ρ X c) ∗ R c)
  post c := iprop(∃ X : Fin cfg1.N → Vec F S256x1024 .bf16, ⌜∀ t, RelOut (V7 m ρ) c t (X t)⌝
    ∗ StableHlo.held (c : Thread nD τ) (Pipeline.ucRefs τ sig) (W9 m ρ X c) ∗ R c)
  run c {β} k K := by
    have hrun := fun X => (hseg hostOps2 hostOps2_sub hostOps2_fresh (W8 m ρ X)).run c k K
    dsimp only [hseg, Pipeline.HostSeg.ofOps] at hrun
    iintro ⟨Hk, Hbd, ⟨%X, %hX, Hh, HR⟩, HL⟩
    iapply (hrun X)
    isplitl [Hk]
    · iintro ⟨Hbd, Hh, HR⟩
      iapply Hk
      isplitl [Hbd]; · iexact Hbd
      iexists X
      isplitr; · ipureintro; exact hX
      isplitl [Hh] <;> iassumption
    isplitl [Hbd]; · iexact Hbd
    isplitl [Hh HR]
    · isplitl [Hh] <;> iassumption
    iexact HL

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RDat.RegionSeg (pcfgs (F := F)) adm (rdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose.toR
  hwaits := Pipeline.RDat.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.RDat.arrays_of_unscopedBufs (p := 0) (pcfgs (F := F)) adm (rdats m ρ) launch0.win launch0.arr_whole c
      ((dat0 (V5 m ρ) c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ Y0) ((dat0 (V5 m ρ) c).share_full fun _ => rfl)
      (V5 m ρ c) (V6 m ρ c) ((dat0 (V5 m ρ) c).arrAt · cfg0.N) (hF0 m ρ c) (hrest0 m ρ c)
    rw [Pipeline.unscopedBufs_held] at hjoin
    refine (sep_mono (Entails.of_eq ((dat0 (V5 m ρ) c).toR_arraysAt_eq cfg0.N)) .rfl).trans ?_
    iintro ⟨Ha, HO, HY, Hrest⟩
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W7`, left at `W8`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RDat.RegionSeg (pcfgs (F := F)) adm (rdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) Y0 c).toRRel
  hwaits := Pipeline.RDat.hwaits_of_owed_zero _ _ _ _ L lv 1 fun _ _ => rfl
  pre c := iprop(StableHlo.held (c : Thread nD τ) (Pipeline.ucRefs τ sig) (W7 m ρ c) ∗ R c)
  post c := iprop(∃ X : Fin cfg1.N → Vec F S256x1024 .bf16, ⌜∀ t, RelOut (V7 m ρ) c t (X t)⌝
    ∗ StableHlo.held (c : Thread nD τ) (Pipeline.ucRefs τ sig) (W8 m ρ X c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.RDat.arrays_of_unscopedBufs (p := 1) (pcfgs (F := F)) adm (rdats m ρ) launch1.win launch1.arr_whole c
      ((dat1 (V7 m ρ) Y0 c).share_full fun _ => rfl) (V7 m ρ c) (A_eq1 (V7 m ρ) Y0 c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (rdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := fun X => Pipeline.unscopedBufs_of_arrays (p := 1) (pcfgs (F := F)) adm (Ix := Unit) (Name := ℕ) (U := UR sig nD τ) (Lvl := ℕ)
      launch1.win launch1.arr_whole c (pdats m ρ X) ((dat1 (V7 m ρ) X c).share_full fun _ => rfl)
      (V7 m ρ c) (V8 m ρ X c) ((dat1 (V7 m ρ) X c).arrAt · cfg1.N) (hF1 m ρ X c) (hrest1 m ρ X c)
    simp only [Pipeline.unscopedBufs_held] at hjoin
    refine (sep_mono (arraysAt1_exit (V7 m ρ) Y0 c) .rfl).trans ?_
    iintro ⟨⟨%X, %hX, Ha⟩, HO, HY, Hrest⟩
    imodintro
    iexists X
    isplitr; · ipureintro; exact hX
    isplitl [Ha Hrest]
    · iapply (hjoin X)
      isplitl [Ha]; · iexact Ha
      iexact Hrest
    isplitl [HY]; · iexact HY
    unfold Pipeline.RDat.owesAt Pipeline.owesWithin
    icases HO with ⟨%W, -, HO⟩; iexists W; iexact HO

/-! ## @main as segments, and the launch -/

/-- @main's 9 segments in order: a host segment per stretch from its boundary's contents, a region per pallas_call. -/
abbrev segs : List (Pipeline.RDat.Seg (pcfgs (F := F)) adm (rdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hsegLast m ρ) ]
/-- @main IS the run of the segments: `Gen.main_chain`, then the segments' run against that chain by the kernel's
    definitional check (`chain_rfl`). -/
theorem main_run (c : Dev nD) : main (F := F) c = Pipeline.RDat.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: at the compiled mesh, from any memory with zero counters, every weakly fair execution of @main on the TensorCores
    terminates, nothing faulting, and every final state has every unscoped buffer at the last boundary's contents, at some
    contents of the main call's result that meet `RelOut`, and every semaphore counter of the machine at zero. -/
theorem runs : θ_run defs (onTc (τ := τ) (main (F := F))) ⟨m, fun _ => 0, ρ⟩ (fun r => (∀ c : Dev nD,
      ∃ X : Fin cfg1.N → Vec F S256x1024 .bf16, (∀ t, RelOut (V7 m ρ) c t (X t))
        ∧ ∀ b ∈ Pipeline.ucRefs τ sig, r.2.mem (((c : Thread nD τ)).1, b) = W9 m ρ X c b)
      ∧ r.2.sem = fun _ => 0) :=
  Pipeline.RDat.θ_run_regions_kit_sems (pcfgs (F := F)) adm (rdats m ρ) () cellOf_inj emb₁ defs₀ 𝒱₀ L lv m ρ main (segs m ρ)
    (fun c Q => by rw [main_run m ρ c])
    (by simp only [segs, Pipeline.RDat.Seg.pipes_host, Pipeline.RDat.Seg.pipes_region, Pipeline.RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.RDat.Seg.post, hsegLast]
      iintro ⟨%X, %hX, Hh, Hp, HO⟩
      isplitl [Hh Hp]
      · iexists X
        isplitr; · ipureintro; exact hX
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∃ X : Fin cfg1.N → Vec F S256x1024 .bf16, (∀ t, RelOut (V7 m ρ) c t (X t))
        ∧ ∀ b ∈ Pipeline.ucRefs τ sig, s.mem (((c : Thread nD τ)).1, b) = W9 m ρ X c b)
    (hfin := fun c s' => by
      iintro ⟨⟨%X, %hX, Hh, -⟩, HSI⟩
      unfold StableHlo.held
      imodintro
      ihave H := (pointsTo_read_all (Pipeline.ucRefs τ sig) (fun b => (((c : Thread nD τ)).1, b)) (W9 m ρ X c) s') $$ [Hh HSI]
      · isplitl [Hh] <;> iassumption
      icases H with ⟨%h, HSI⟩
      isplitr; · ipureintro; exact ⟨X, hX, h⟩
      iexact HSI)
    (hQ := fun s h hz => ⟨h, funext fun g => hz g (.inr (no_unscoped g.2))⟩)

/-- THE FRAME: the argument arrays end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r hr => ⟨fun c => by
    obtain ⟨X, -, h⟩ := hr.1 c
    have hb := fun (a : Ref sig .tc) (ha : a ∈ argRefs) (hu : ¬ (Proc.devRef .tc a : DevRef τ sig).isScoped) =>
      (h _ (mem_uc a hu)).trans (W9_args m ρ X c a ha)
    exact ⟨hb main_arg0 (by decide) (by decide), hb main_arg1 (by decide) (by decide), hb main_arg2 (by decide) (by decide), hb main_arg3 (by decide) (by decide), hb main_arg4 (by decide) (by decide), hb main_arg5 (by decide) (by decide), hb main_arg6 (by decide) (by decide), hb main_arg7 (by decide) (by decide), hb main_arg8 (by decide) (by decide)⟩, hr.2⟩) (runs m ρ)

end Cert.KernelIdeal.Own
-- ==== Proof.KernelIdeal.Steps.lean ====
/- The quantising call's body as 35 equal steps of 64 rows: what the run stores at step `k`, as one function of the step's
   number and of the arrays it loads, and the lists of stored pieces as these functions mapped over the steps. -/
module

public import proofs.«01_k».proof.Proof.KernelIdeal.Quant

@[expose] public section

set_option maxRecDepth 16384

noncomputable section

namespace Cert.KernelIdeal.Own

open Cert.KernelIdeal.Gen
open Idealize.ShloMosaic Idealize.ShloMosaic.TcCoe Idealize.ShloMosaic.Tactic

variable {F : FTy → Type} [FloatOps F]

/-- The steps, the last first. -/
abbrev stepList : List (Fin 35) :=
  [34, 33, 32, 31, 30, 29, 28, 27, 26, 25, 24, 23, 22, 21, 20, 19, 18, 17, 16, 15, 14, 13, 12, 11, 10, 9, 8, 7, 6, 5, 4, 3, 2, 1, 0]

theorem inbX (k : Fin 35) : ∀ a, (![64 * k.val, 0] : Fin 2 → ℕ) a + S64x128.size a ≤ S2240x128.size a := by
  intro a; fin_cases a <;> simp <;> omega
theorem inbS (k : Fin 35) : ∀ a, (![0, 64 * k.val] : Fin 2 → ℕ) a + S1x64.size a ≤ S1x2240.size a := by
  intro a; fin_cases a <;> simp <;> omega
theorem inbP (k : Fin 35) : ∀ a, (![32 * k.val, 0] : Fin 2 → ℕ) a + S32x128.size a ≤ S1120x128.size a := by
  intro a; fin_cases a <;> simp <;> omega
theorem inbG (k : Fin 35) : ∀ a, (![4 * k.val, 0] : Fin 2 → ℕ) a + S4x128.size a ≤ S140x128.size a := by
  intro a; fin_cases a <;> simp <;> omega
theorem inbQ (k : Fin 35) : ∀ a, (![64 * k.val, 0] : Fin 2 → ℕ) a + S64x128.size a ≤ S2304x128.size a := by
  intro a; fin_cases a <;> simp <;> omega

/-- Step `k`'s rows of the activations and columns of the smoothing factors, as the body loads them. -/
abbrev ldX (arg3 : Memref sig .tc .vmem S2240x128 .bf16) (harg3 : arg3.IsWhole) (x2 : Vec F S2240x128 .bf16) (k : Fin 35) : Vec F S64x128 .bf16 :=
  View.readAt (Elt F) arg3.view (Rect.unit (s := S2240x128) ![64 * k.val, 0] S64x128.size (inbX k)).toLoadRect (harg3.unread x2)
abbrev ldS (arg4 : Memref sig .tc .vmem S1x2240 .f32) (harg4 : arg4.IsWhole) (x3 : Vec F S1x2240 .f32) (k : Fin 35) : Vec F S1x64 .f32 :=
  View.readAt (Elt F) arg4.view (Rect.unit (s := S1x2240) ![0, 64 * k.val] S1x64.size (inbS k)).toLoadRect (harg4.unread x3)
abbrev ldG (arg1 : Memref sig .tc .smem S1 .f32) (harg1 : arg1.IsWhole) (x0 : Vec F S1 .f32) : Elt F .f32 :=
  View.readAt (Elt F) arg1.view (Rect.unit (s := S1) ![0] S1.size inb_S1_S1_0).toLoadRect (harg1.unread x0) (Shape.Idx.first (s := S1) (by decide))

/-- The codes' words, bytes, nibbles and dequantised values of a step, of its loaded vectors. -/
def stP (g : Elt F .f32) (v4 : Vec F S1x64 .f32) (v9 : Vec F S64x128 .bf16) : IVec S32x128 8 :=
  k0_pay17 (k0_pay12 (k0_pay8 v4 v9) (k0_pay11 g v4 v9)) (k0_pay13 (k0_pay8 v4 v9) (k0_pay11 g v4 v9)) (k0_pay14 (k0_pay8 v4 v9) (k0_pay11 g v4 v9)) (k0_pay15 (k0_pay8 v4 v9) (k0_pay11 g v4 v9)) 1#32 0#32
def stN (g : Elt F .f32) (v4 : Vec F S1x64 .f32) (v9 : Vec F S64x128 .bf16) : IVec S64x128 32 :=
  k0_pay18 (k0_pay12 (k0_pay8 v4 v9) (k0_pay11 g v4 v9)) (k0_pay13 (k0_pay8 v4 v9) (k0_pay11 g v4 v9)) (k0_pay14 (k0_pay8 v4 v9) (k0_pay11 g v4 v9)) (k0_pay15 (k0_pay8 v4 v9) (k0_pay11 g v4 v9)) 1#32 0#32
def stM (g : Elt F .f32) (v4 : Vec F S1x64 .f32) (v9 : Vec F S64x128 .bf16) : IVec S64x128 32 :=
  k0_pay19 (k0_pay12 (k0_pay8 v4 v9) (k0_pay11 g v4 v9)) (k0_pay13 (k0_pay8 v4 v9) (k0_pay11 g v4 v9)) (k0_pay14 (k0_pay8 v4 v9) (k0_pay11 g v4 v9)) (k0_pay15 (k0_pay8 v4 v9) (k0_pay11 g v4 v9)) 1#32 0#32
def stQ (g : Elt F .f32) (f : F .bf16) (v4 : Vec F S1x64 .f32) (v9 : Vec F S64x128 .bf16) : FVec F S64x128 .bf16 :=
  k0_pay20 f (k0_pay9 g v4 v9) (stN g v4 v9) (stM g v4 v9)

variable (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec F S1 .f32) (x1 : Vec F S3 .f32) (x2 : Vec F S2240x128 .bf16) (x3 : Vec F S1x2240 .f32) (x4 : Vec F S32x2240 .bf16)

/-- The stored scales: step `k`'s are its four rows. -/
theorem pieces6 : (kernelRun0_A c i arg1 harg1 arg2 harg2 arg3 harg3 arg4 harg4 arg5 harg5 arg6 harg6 arg7 harg7 arg8 harg8 arg9 harg9 x0 x1 x2 x3 x4).2.1
    = stepList.map fun k => ⟨Rect.unit (s := S140x128) ![4 * k.val, 0] S4x128.size (inbG k), k0_pay10 (ldG arg1 harg1 x0) (ldS arg4 harg4 x3 k) (ldX arg3 harg3 x2 k)⟩ := by
  sl_kernel_rfl

/-- The stored bytes: step `k`'s are its 32 rows. -/
theorem pieces5 : (kernelRun0_A c i arg1 harg1 arg2 harg2 arg3 harg3 arg4 harg4 arg5 harg5 arg6 harg6 arg7 harg7 arg8 harg8 arg9 harg9 x0 x1 x2 x3 x4).1
    = stepList.map fun k => ⟨Rect.unit (s := S1120x128) ![32 * k.val, 0] S32x128.size (inbP k), stP (ldG arg1 harg1 x0) (ldS arg4 harg4 x3 k) (ldX arg3 harg3 x2 k)⟩ := by
  sl_kernel_rfl

/-- The three constants of the call, as the body loads them. -/
abbrev ldC (arg2 : Memref sig .tc .smem S3 .f32) (harg2 : arg2.IsWhole) (x1 : Vec F S3 .f32) (n : Fin 3) : Elt F .f32 :=
  View.readAt (Elt F) arg2.view (Rect.unit (s := S3) ![n.val] S1.size (fun a => by fin_cases a; fin_cases n <;> decide)).toLoadRect (harg2.unread x1) (Shape.Idx.first (s := S1) (by decide))
abbrev ldL (arg5 : Memref sig .tc .vmem S32x2240 .bf16) (harg5 : arg5.IsWhole) (x4 : Vec F S32x2240 .bf16) : Vec F S32x2240 .bf16 :=
  View.readAt (Elt F) arg5.view (Rect.unit (s := S32x2240) ![0, 0] S32x2240.size inb_S32x2240_S32x2240_0_0).toLoadRect (harg5.unread x4)
/-- The scaled activations kept in the scratch buffer: the pieces stored there, and their read-back for the product with `l_down`. -/
abbrev xsbPieces : List (View.Piece (Elt F) S2240x128 .bf16) :=
  stepList.map fun k => ⟨Rect.unit (s := S2240x128) ![64 * k.val, 0] S64x128.size (inbX k), k0_pay7 (ldS arg4 harg4 x3 k) (ldX arg3 harg3 x2 k)⟩
abbrev ldB : Vec F S2240x128 .bf16 :=
  arg9.view.readCov (xsbPieces arg3 harg3 arg4 harg4 x2 x3) (Rect.unit (s := S2240x128) ![0, 0] S2240x128.size inb_S2240x128_S2240x128_0_0).toLoadRect

/-- The stored dequantised activations, and below them the two parts of the low-rank rows. -/
theorem pieces7 : (kernelRun0_A c i arg1 harg1 arg2 harg2 arg3 harg3 arg4 harg4 arg5 harg5 arg6 harg6 arg7 harg7 arg8 harg8 arg9 harg9 x0 x1 x2 x3 x4).2.2.1
    = ⟨Rect.unit (s := S2304x128) ![2272, 0] S32x128.size inb_S2304x128_S32x128_2272_0, k0_pay4 (ldC arg2 harg2 x1 0) (ldL arg5 harg5 x4) (ldB arg3 harg3 arg4 harg4 arg9 x2 x3)⟩
      :: ⟨Rect.unit (s := S2304x128) ![2240, 0] S32x128.size inb_S2304x128_S32x128_2240_0, k0_pay3 (ldC arg2 harg2 x1 0) (ldL arg5 harg5 x4) (ldB arg3 harg3 arg4 harg4 arg9 x2 x3)⟩
      :: stepList.map fun k => ⟨Rect.unit (s := S2304x128) ![64 * k.val, 0] S64x128.size (inbQ k), stQ (ldG arg1 harg1 x0) (k0_pay5 (ldC arg2 harg2 x1 1)) (ldS arg4 harg4 x3 k) (ldX arg3 harg3 x2 k)⟩ := by
  sl_kernel_rfl

end Cert.KernelIdeal.Own
-- ==== Proof.Scalars.lean ====
/- Scalar facts shared by the two sides: the four-bit code of a real number, its decoding, the group scale. -/
module

public import Idealize.ShloMosaic.Lib.Pointwise
public import Idealize.ShloMosaic.Lib.IdealHost

@[expose] public section

set_option maxRecDepth 16384

noncomputable section

namespace Cert.Own

open Idealize.ShloMosaic

/-! ### Constants -/

theorem c6 : Ideal.ofBits .f32 0x40C00000#32 = ((6 : ℝ) : EReal) := by
  simp [Ideal.ofBits, Ideal.ieee, -EReal.coe_mul]; norm_num
theorem cm6 : Ideal.ofBits .f32 0xC0C00000#32 = ((-6 : ℝ) : EReal) := by
  simp [Ideal.ofBits, Ideal.ieee, -EReal.coe_mul, -EReal.coe_neg]; norm_num
theorem c448 : Ideal.ofBits .f32 0x43E00000#32 = ((448 : ℝ) : EReal) := by
  simp [Ideal.ofBits, Ideal.ieee, -EReal.coe_mul]; norm_num
theorem c2 : Ideal.ofBits .f32 0x40000000#32 = ((2 : ℝ) : EReal) := by
  simp [Ideal.ofBits, Ideal.ieee, -EReal.coe_mul]; norm_num
theorem c4 : Ideal.ofBits .f32 0x40800000#32 = ((4 : ℝ) : EReal) := by
  simp [Ideal.ofBits, Ideal.ieee, -EReal.coe_mul]; norm_num
theorem c3 : Ideal.ofBits .f32 0x40400000#32 = ((3 : ℝ) : EReal) := by
  simp [Ideal.ofBits, Ideal.ieee, -EReal.coe_mul]; norm_num
theorem c15 : Ideal.ofBits .f32 0x3FC00000#32 = ((3 / 2 : ℝ) : EReal) := by
  simp [Ideal.ofBits, Ideal.ieee, -EReal.coe_mul]; norm_num
theorem c05 : Ideal.ofBits .f32 0x3F000000#32 = ((1 / 2 : ℝ) : EReal) := by
  simp [Ideal.ofBits, Ideal.ieee, -EReal.coe_mul]; norm_num
theorem k025 : Ideal.ofBits .f32 0x3E800000#32 = ((1 / 4 : ℝ) : EReal) := by
  simp [Ideal.ofBits, Ideal.ieee, -EReal.coe_mul]; norm_num
theorem k075 : Ideal.ofBits .f32 0x3F400000#32 = ((3 / 4 : ℝ) : EReal) := by
  simp [Ideal.ofBits, Ideal.ieee, -EReal.coe_mul]; norm_num
theorem k125 : Ideal.ofBits .f32 0x3FA00000#32 = ((5 / 4 : ℝ) : EReal) := by
  simp [Ideal.ofBits, Ideal.ieee, -EReal.coe_mul]; norm_num
theorem k175 : Ideal.ofBits .f32 0x3FE00000#32 = ((7 / 4 : ℝ) : EReal) := by
  simp [Ideal.ofBits, Ideal.ieee, -EReal.coe_mul]; norm_num
theorem k25 : Ideal.ofBits .f32 0x40200000#32 = ((5 / 2 : ℝ) : EReal) := by
  simp [Ideal.ofBits, Ideal.ieee, -EReal.coe_mul]; norm_num
theorem k35 : Ideal.ofBits .f32 0x40600000#32 = ((7 / 2 : ℝ) : EReal) := by
  simp [Ideal.ofBits, Ideal.ieee, -EReal.coe_mul]; norm_num
theorem k5 : Ideal.ofBits .f32 0x40A00000#32 = ((5 : ℝ) : EReal) := by
  simp [Ideal.ofBits, Ideal.ieee, -EReal.coe_mul]; norm_num

/-! ### Absolute value, minimum and maximum of reals -/

theorem coe_max' (a b : ℝ) : max (a : EReal) (b : EReal) = ((max a b : ℝ) : EReal) :=
  (EReal.coe_strictMono.monotone.map_max).symm
theorem coe_min' (a b : ℝ) : min (a : EReal) (b : EReal) = ((min a b : ℝ) : EReal) :=
  (EReal.coe_strictMono.monotone.map_min).symm
theorem absf_coe (a : ℝ) : FloatOps.absf (F := Ideal) (φ := .f32) (a : EReal) = ((|a| : ℝ) : EReal) := by
  show max (a : EReal) (-(a : EReal)) = _
  rw [← EReal.coe_neg, coe_max', abs_eq_max_neg]

/-! ### Rounding to the nearest integer -/

theorem rhe_near {x : ℝ} {n : ℤ} (h1 : (n : ℝ) - 1 / 2 < x) (h2 : x < n + 1 / 2) : Ideal.roundHalfEven x = n := by
  unfold Ideal.roundHalfEven
  by_cases hx : (n : ℝ) ≤ x
  · have hf : ⌊x⌋ = n := Int.floor_eq_iff.2 ⟨hx, by linarith⟩
    simp only [hf]; rw [if_pos (by linarith)]
  · have hf : ⌊x⌋ = n - 1 := Int.floor_eq_iff.2 ⟨by push_cast; linarith, by push_cast; linarith⟩
    simp only [hf]; push_cast
    rw [if_neg (by linarith), if_pos (by linarith)]; ring

theorem rhe_even {x : ℝ} {n : ℤ} (he : Even n) (h1 : (n : ℝ) - 1 / 2 ≤ x) (h2 : x ≤ n + 1 / 2) : Ideal.roundHalfEven x = n := by
  unfold Ideal.roundHalfEven
  by_cases hx : (n : ℝ) ≤ x
  · have hf : ⌊x⌋ = n := Int.floor_eq_iff.2 ⟨hx, by linarith⟩
    simp only [hf]
    split_ifs with a b
    · rfl
    · linarith
    · rfl
  · have hf : ⌊x⌋ = n - 1 := Int.floor_eq_iff.2 ⟨by push_cast; linarith, by push_cast; linarith⟩
    have ho : ¬ Even (n - 1) := by
      rw [Int.not_even_iff_odd]; exact he.sub_odd odd_one
    simp only [hf]; push_cast
    rw [if_neg (by linarith)]
    split_ifs <;> ring

/-! ### The code of a real -/

/-- The three-bit code of a magnitude. -/
def magN (a : ℝ) : ℕ :=
  if a ≤ 1 / 4 then 0 else if a < 3 / 4 then 1 else if a ≤ 5 / 4 then 2 else if a < 7 / 4 then 3
  else if a ≤ 5 / 2 then 4 else if a < 7 / 2 then 5 else if a ≤ 5 then 6 else 7

theorem magN_lt (a : ℝ) : magN a < 8 := by unfold magN; split_ifs <;> omega

theorem magN_cases (a : ℝ) {P : ℕ → Prop} (h0 : a ≤ 1 / 4 → P 0) (h1 : 1 / 4 < a → a < 3 / 4 → P 1) (h2 : 3 / 4 ≤ a → a ≤ 5 / 4 → P 2)
    (h3 : 5 / 4 < a → a < 7 / 4 → P 3) (h4 : 7 / 4 ≤ a → a ≤ 5 / 2 → P 4) (h5 : 5 / 2 < a → a < 7 / 2 → P 5)
    (h6 : 7 / 2 ≤ a → a ≤ 5 → P 6) (h7 : 5 < a → P 7) : P (magN a) := by
  unfold magN
  split_ifs with a1 a2 a3 a4 a5 a6 a7
  · exact h0 a1
  · exact h1 (not_le.1 a1) a2
  · exact h2 (not_lt.1 a2) a3
  · exact h3 (not_le.1 a3) a4
  · exact h4 (not_lt.1 a4) a5
  · exact h5 (not_le.1 a5) a6
  · exact h6 (not_lt.1 a6) a7
  · exact h7 (not_le.1 a7)

/-- The code with the sign bit, before the code of a negative zero is cleared. -/
def ck (t : ℝ) : ℕ := magN |t| + if t < 0 then 8 else 0
/-- The stored code. -/
def cd (t : ℝ) : ℕ := if ck t = 8 then 0 else ck t

theorem ck_lt (t : ℝ) : ck t < 16 := by have := magN_lt |t|; unfold ck; split_ifs <;> omega
theorem cd_lt (t : ℝ) : cd t < 16 := by have := ck_lt t; unfold cd; split_ifs <;> omega

/-- The kernel's code of the quotient: seven thresholds and the sign. -/
def encK (T : EReal) : BitVec 32 :=
  IntOp.addi (IntOp.addi (IntOp.addi (IntOp.addi (IntOp.addi (IntOp.addi (IntOp.addi
    (if Ideal.ofBits .f32 0x3E800000#32 < FloatOps.absf (F := Ideal) (φ := .f32) T then 1#32 else 0#32)
    (if Ideal.ofBits .f32 0x3F400000#32 ≤ FloatOps.absf (F := Ideal) (φ := .f32) T then 1#32 else 0#32))
    (if Ideal.ofBits .f32 0x3FA00000#32 < FloatOps.absf (F := Ideal) (φ := .f32) T then 1#32 else 0#32))
    (if Ideal.ofBits .f32 0x3FE00000#32 ≤ FloatOps.absf (F := Ideal) (φ := .f32) T then 1#32 else 0#32))
    (if Ideal.ofBits .f32 0x40200000#32 < FloatOps.absf (F := Ideal) (φ := .f32) T then 1#32 else 0#32))
    (if Ideal.ofBits .f32 0x40600000#32 ≤ FloatOps.absf (F := Ideal) (φ := .f32) T then 1#32 else 0#32))
    (if Ideal.ofBits .f32 0x40A00000#32 < FloatOps.absf (F := Ideal) (φ := .f32) T then 1#32 else 0#32))
    (if T < 0 then 8#32 else 0#32)

theorem encK_eq (t : ℝ) :
    encK (min (Ideal.ofBits .f32 0x40C00000#32) (max (Ideal.ofBits .f32 0xC0C00000#32) (t : EReal))) = BitVec.ofNat 32 (ck t) := by
  rw [c6, cm6, coe_max', coe_min']
  have ha : |min 6 (max (-6) t)| = min 6 |t| := by
    rcases le_total 0 t with h | h
    · rw [max_eq_right (by linarith), abs_of_nonneg h, abs_of_nonneg (le_min (by norm_num) h)]
    · rw [abs_of_nonpos h, abs_of_nonpos (min_le_of_right_le (max_le (by norm_num) h))]
      rw [min_eq_right (max_le (by norm_num) (by linarith)), show (-6 : ℝ) = -(6 : ℝ) from rfl, ← min_neg_neg, neg_neg]
  have hs : min 6 (max (-6) t) < 0 ↔ t < 0 := by
    simp [min_lt_iff, max_lt_iff]
  unfold encK
  simp only [absf_coe, ha, k025, k075, k125, k175, k25, k35, k5, EReal.coe_lt_coe_iff, EReal.coe_le_coe_iff, EReal.coe_neg', hs,
    lt_min_iff, le_min_iff]
  unfold ck
  generalize |t| = a
  have key : ∀ s : ℕ, s = 0 ∨ s = 8 → IntOp.addi (IntOp.addi (IntOp.addi (IntOp.addi (IntOp.addi (IntOp.addi (IntOp.addi
      (if (1 / 4 : ℝ) < 6 ∧ 1 / 4 < a then 1#32 else 0#32) (if (3 / 4 : ℝ) ≤ 6 ∧ 3 / 4 ≤ a then 1#32 else 0#32))
      (if (5 / 4 : ℝ) < 6 ∧ 5 / 4 < a then 1#32 else 0#32)) (if (7 / 4 : ℝ) ≤ 6 ∧ 7 / 4 ≤ a then 1#32 else 0#32))
      (if (5 / 2 : ℝ) < 6 ∧ 5 / 2 < a then 1#32 else 0#32)) (if (7 / 2 : ℝ) ≤ 6 ∧ 7 / 2 ≤ a then 1#32 else 0#32))
      (if (5 : ℝ) < 6 ∧ 5 < a then 1#32 else 0#32)) (BitVec.ofNat 32 s) = BitVec.ofNat 32 (magN a + s) := by
    intro s hs
    simp only [show (1 / 4 : ℝ) < 6 from by norm_num, show (3 / 4 : ℝ) ≤ 6 from by norm_num, show (5 / 4 : ℝ) < 6 from by norm_num,
      show (7 / 4 : ℝ) ≤ 6 from by norm_num, show (5 / 2 : ℝ) < 6 from by norm_num, show (7 / 2 : ℝ) ≤ 6 from by norm_num,
      show (5 : ℝ) < 6 from by norm_num, true_and]
    refine magN_cases a (P := fun n => _ = BitVec.ofNat 32 (n + s)) ?_ ?_ ?_ ?_ ?_ ?_ ?_ ?_ <;> intros <;> beta_reduce
    · rw [if_neg (show ¬ (1 / 4 : ℝ) < a by linarith), if_neg (show ¬ (3 / 4 : ℝ) ≤ a by linarith), if_neg (show ¬ (5 / 4 : ℝ) < a by linarith), if_neg (show ¬ (7 / 4 : ℝ) ≤ a by linarith), if_neg (show ¬ (5 / 2 : ℝ) < a by linarith), if_neg (show ¬ (7 / 2 : ℝ) ≤ a by linarith), if_neg (show ¬ (5 : ℝ) < a by linarith)]
      rcases hs with rfl | rfl <;> rfl
    · rw [if_pos (show (1 / 4 : ℝ) < a by linarith), if_neg (show ¬ (3 / 4 : ℝ) ≤ a by linarith), if_neg (show ¬ (5 / 4 : ℝ) < a by linarith), if_neg (show ¬ (7 / 4 : ℝ) ≤ a by linarith), if_neg (show ¬ (5 / 2 : ℝ) < a by linarith), if_neg (show ¬ (7 / 2 : ℝ) ≤ a by linarith), if_neg (show ¬ (5 : ℝ) < a by linarith)]
      rcases hs with rfl | rfl <;> rfl
    · rw [if_pos (show (1 / 4 : ℝ) < a by linarith), if_pos (show (3 / 4 : ℝ) ≤ a by linarith), if_neg (show ¬ (5 / 4 : ℝ) < a by linarith), if_neg (show ¬ (7 / 4 : ℝ) ≤ a by linarith), if_neg (show ¬ (5 / 2 : ℝ) < a by linarith), if_neg (show ¬ (7 / 2 : ℝ) ≤ a by linarith), if_neg (show ¬ (5 : ℝ) < a by linarith)]
      rcases hs with rfl | rfl <;> rfl
    · rw [if_pos (show (1 / 4 : ℝ) < a by linarith), if_pos (show (3 / 4 : ℝ) ≤ a by linarith), if_pos (show (5 / 4 : ℝ) < a by linarith), if_neg (show ¬ (7 / 4 : ℝ) ≤ a by linarith), if_neg (show ¬ (5 / 2 : ℝ) < a by linarith), if_neg (show ¬ (7 / 2 : ℝ) ≤ a by linarith), if_neg (show ¬ (5 : ℝ) < a by linarith)]
      rcases hs with rfl | rfl <;> rfl
    · rw [if_pos (show (1 / 4 : ℝ) < a by linarith), if_pos (show (3 / 4 : ℝ) ≤ a by linarith), if_pos (show (5 / 4 : ℝ) < a by linarith), if_pos (show (7 / 4 : ℝ) ≤ a by linarith), if_neg (show ¬ (5 / 2 : ℝ) < a by linarith), if_neg (show ¬ (7 / 2 : ℝ) ≤ a by linarith), if_neg (show ¬ (5 : ℝ) < a by linarith)]
      rcases hs with rfl | rfl <;> rfl
    · rw [if_pos (show (1 / 4 : ℝ) < a by linarith), if_pos (show (3 / 4 : ℝ) ≤ a by linarith), if_pos (show (5 / 4 : ℝ) < a by linarith), if_pos (show (7 / 4 : ℝ) ≤ a by linarith), if_pos (show (5 / 2 : ℝ) < a by linarith), if_neg (show ¬ (7 / 2 : ℝ) ≤ a by linarith), if_neg (show ¬ (5 : ℝ) < a by linarith)]
      rcases hs with rfl | rfl <;> rfl
    · rw [if_pos (show (1 / 4 : ℝ) < a by linarith), if_pos (show (3 / 4 : ℝ) ≤ a by linarith), if_pos (show (5 / 4 : ℝ) < a by linarith), if_pos (show (7 / 4 : ℝ) ≤ a by linarith), if_pos (show (5 / 2 : ℝ) < a by linarith), if_pos (show (7 / 2 : ℝ) ≤ a by linarith), if_neg (show ¬ (5 : ℝ) < a by linarith)]
      rcases hs with rfl | rfl <;> rfl
    · rw [if_pos (show (1 / 4 : ℝ) < a by linarith), if_pos (show (3 / 4 : ℝ) ≤ a by linarith), if_pos (show (5 / 4 : ℝ) < a by linarith), if_pos (show (7 / 4 : ℝ) ≤ a by linarith), if_pos (show (5 / 2 : ℝ) < a by linarith), if_pos (show (7 / 2 : ℝ) ≤ a by linarith), if_pos (show (5 : ℝ) < a by linarith)]
      rcases hs with rfl | rfl <;> rfl
  by_cases ht : t < 0
  · simp only [if_pos ht]; exact key 8 (.inr rfl)
  · simp only [if_neg ht]; exact key 0 (.inl rfl)

/-! ### The reference's code -/

/-- The reference's code of the quotient: the magnitude rounded to nearest even on its binade's grid, then the integer code. -/
def qRef (m : EReal) : EReal :=
  if m < Ideal.ofBits .f32 0x40000000#32 then Ideal.div (Ideal.liftRound Ideal.roundHalfEven (Ideal.ofBits .f32 0x40000000#32 * m)) (Ideal.ofBits .f32 0x40000000#32)
  else if m < Ideal.ofBits .f32 0x40800000#32 then Ideal.liftRound Ideal.roundHalfEven m
  else Ideal.ofBits .f32 0x40000000#32 * Ideal.liftRound Ideal.roundHalfEven (Ideal.div m (Ideal.ofBits .f32 0x40000000#32))

/-- The magnitude a three-bit code stands for. -/
def magR (n : ℕ) : ℝ :=
  match n with
  | 0 => 0 | 1 => 1 / 2 | 2 => 1 | 3 => 3 / 2 | 4 => 2 | 5 => 3 | 6 => 4 | _ => 6

theorem qRef_eq (a : ℝ) (h0 : 0 ≤ a) : qRef (min (a : EReal) (Ideal.ofBits .f32 0x40C00000#32)) = ((magR (magN a) : ℝ) : EReal) := by
  rw [c6, coe_min']
  have hr : ∀ r : ℝ, Ideal.liftRound Ideal.roundHalfEven (r : EReal) = (((Ideal.roundHalfEven r : ℤ) : ℝ) : EReal) := fun _ => rfl
  have step : qRef ((min a 6 : ℝ) : EReal) = (((if min a 6 < 2 then ((Ideal.roundHalfEven (2 * min a 6) : ℤ) : ℝ) / 2 else if min a 6 < 4
      then ((Ideal.roundHalfEven (min a 6) : ℤ) : ℝ) else 2 * ((Ideal.roundHalfEven (min a 6 / 2) : ℤ) : ℝ)) : ℝ) : EReal) := by
    unfold qRef
    simp only [c2, c4, Ideal.div_coe (show (2 : ℝ) ≠ 0 by norm_num), ← EReal.coe_mul, hr, EReal.coe_lt_coe_iff]
    split_ifs <;> congr 1 <;> ring_nf
  rw [step]
  refine congrArg _ ?_
  refine magN_cases a (P := fun n => _ = magR n) ?_ ?_ ?_ ?_ ?_ ?_ ?_ ?_ <;> intros
  · have hm : min a 6 = a := min_eq_left (by linarith)
    rw [hm, if_pos (by linarith), rhe_even (n := 0) (by decide) (by push_cast; linarith) (by push_cast; linarith)]; norm_num [magR]
  · have hm : min a 6 = a := min_eq_left (by linarith)
    rw [hm, if_pos (by linarith), rhe_near (n := 1) (by push_cast; linarith) (by push_cast; linarith)]; norm_num [magR]
  · have hm : min a 6 = a := min_eq_left (by linarith)
    rw [hm, if_pos (by linarith), rhe_even (n := 2) (by decide) (by push_cast; linarith) (by push_cast; linarith)]; norm_num [magR]
  · have hm : min a 6 = a := min_eq_left (by linarith)
    rw [hm, if_pos (by linarith), rhe_near (n := 3) (by push_cast; linarith) (by push_cast; linarith)]; norm_num [magR]
  · have hm : min a 6 = a := min_eq_left (by linarith)
    rw [hm]
    by_cases h2 : a < 2
    · rw [if_pos h2, rhe_even (n := 4) (by decide) (by push_cast; linarith) (by push_cast; linarith)]; norm_num [magR]
    · rw [if_neg h2, if_pos (by linarith), rhe_even (n := 2) (by decide) (by push_cast; linarith) (by push_cast; linarith)]; norm_num [magR]
  · have hm : min a 6 = a := min_eq_left (by linarith)
    rw [hm, if_neg (by linarith), if_pos (by linarith), rhe_near (n := 3) (by push_cast; linarith) (by push_cast; linarith)]; norm_num [magR]
  · have hm : min a 6 = a := min_eq_left (by linarith)
    rw [hm, if_neg (by linarith)]
    by_cases h4 : a < 4
    · rw [if_pos h4, rhe_even (n := 4) (by decide) (by push_cast; linarith) (by push_cast; linarith)]; norm_num [magR]
    · rw [if_neg h4, rhe_even (n := 2) (by decide) (by push_cast; linarith) (by push_cast; linarith)]; norm_num [magR]
  · have hm : 5 < min a 6 := lt_min (by linarith) (by norm_num)
    have hm' : min a 6 ≤ 6 := min_le_right _ _
    rw [if_neg (by linarith), if_neg (by linarith), rhe_near (n := 3) (by push_cast; linarith) (by push_cast; linarith)]; norm_num [magR]

/-- The integer code of a rounded magnitude. -/
def iRef (q : EReal) : BitVec 32 :=
  Ideal.fptosi 32 (if q < Ideal.ofBits .f32 0x40000000#32 then Ideal.ofBits .f32 0x40000000#32 * q
    else if q < Ideal.ofBits .f32 0x40800000#32 then q + Ideal.ofBits .f32 0x40000000#32
    else Ideal.div q (Ideal.ofBits .f32 0x40000000#32) + Ideal.ofBits .f32 0x40800000#32)

/-- The reference's integer code: the magnitude's, with the sign bit set for a negative quotient of nonzero code. -/
def encRef (t : EReal) : BitVec 32 :=
  Scalar.select (IntOp.andi (BitVec.ofBool (decide (t < 0))) (BitVec.ofBool (decide (0 < qRef (min (FloatOps.absf (F := Ideal) (φ := .f32) t) (Ideal.ofBits .f32 0x40C00000#32))))))
    (IntOp.ori (iRef (qRef (min (FloatOps.absf (F := Ideal) (φ := .f32) t) (Ideal.ofBits .f32 0x40C00000#32)))) 8#32)
    (iRef (qRef (min (FloatOps.absf (F := Ideal) (φ := .f32) t) (Ideal.ofBits .f32 0x40C00000#32))))

theorem iRef_eq (n : ℕ) (hn : n < 8) : iRef ((magR n : ℝ) : EReal) = BitVec.ofNat 32 n := by
  unfold iRef
  simp only [c2, c4, Ideal.div_coe (show (2 : ℝ) ≠ 0 by norm_num), ← EReal.coe_mul, ← EReal.coe_add, EReal.coe_lt_coe_iff]
  interval_cases n <;> norm_num [magR] <;> (rw [Ideal.fptosi]; first
    | (rw [Ideal.toIntClamped_coe]; norm_num)
    | (rw [← EReal.coe_zero, Ideal.toIntClamped_coe]; norm_num)
    | (rw [← EReal.coe_one, Ideal.toIntClamped_coe]; norm_num))

theorem encRef_eq (t : ℝ) : encRef (t : EReal) = BitVec.ofNat 32 (cd t) := by
  unfold encRef
  rw [absf_coe, qRef_eq _ (abs_nonneg t), iRef_eq _ (magN_lt _)]
  unfold cd ck
  have hn := magN_lt |t|
  generalize magN |t| = n at hn ⊢
  rw [← EReal.coe_zero]
  simp only [EReal.coe_lt_coe_iff]
  by_cases ht : t < 0
  · interval_cases n <;> simp [ht, magR, Scalar.select, IntOp.andi, IntOp.ori]
  · interval_cases n <;> simp [ht, magR, Scalar.select, IntOp.andi, IntOp.ori]

end Cert.Own
-- ==== Proof.Words.lean ====
/- Words of four-bit codes: the packed word, the clearing of negative zeros, its bytes and its codes, and the decoding of a code. -/
module

public import proofs.«01_k».proof.Proof.Scalars
public import Idealize.ShloMosaic.Lib.WordSum
public import Idealize.ShloMosaic.Lib.BitcastPair

@[expose] public section

set_option maxRecDepth 16384

noncomputable section

namespace Cert.Own

open Idealize.ShloMosaic

/-! ### Decoding -/

/-- The value of a four-bit code. -/
def decR (n : ℕ) : ℝ :=
  match n with
  | 0 => 0 | 1 => 1 / 2 | 2 => 1 | 3 => 3 / 2 | 4 => 2 | 5 => 3 | 6 => 4 | 7 => 6
  | 8 => 0 | 9 => -(1 / 2) | 10 => -1 | 11 => -(3 / 2) | 12 => -2 | 13 => -3 | 14 => -4 | _ => -6

def dec (n : ℕ) : EReal := ((decR n : ℝ) : EReal)

/-- Twice the value of a code, as the kernel computes it. -/
def twiceK (c : BitVec 32) : BitVec 32 :=
  Scalar.select (IntOp.cmpi .slt c 8#32)
    (Scalar.select (IntOp.cmpi .slt (IntOp.andi c 7#32) 4#32) (IntOp.andi c 7#32)
      (Scalar.select (IntOp.cmpi .slt (IntOp.andi c 7#32) 6#32) (IntOp.subi (IntOp.muli 2#32 (IntOp.andi c 7#32)) 4#32)
        (IntOp.subi (IntOp.muli 4#32 (IntOp.andi c 7#32)) 16#32)))
    (IntOp.subi 0#32 (Scalar.select (IntOp.cmpi .slt (IntOp.andi c 7#32) 4#32) (IntOp.andi c 7#32)
      (Scalar.select (IntOp.cmpi .slt (IntOp.andi c 7#32) 6#32) (IntOp.subi (IntOp.muli 2#32 (IntOp.andi c 7#32)) 4#32)
        (IntOp.subi (IntOp.muli 4#32 (IntOp.andi c 7#32)) 16#32))))

def decK (c : BitVec 32) : EReal := FloatOps.sitofp (F := Ideal) .f32 (twiceK c) * Ideal.ofBits .f32 0x3F000000#32

theorem decK_eq (n : ℕ) (hn : n < 16) : decK (BitVec.ofNat 32 n) = dec n := by
  have h : ∀ z : ℤ, (twiceK (BitVec.ofNat 32 n)).toInt = z → decR n = (z : ℝ) * (1 / 2) → decK (BitVec.ofNat 32 n) = dec n := by
    intro z hz hd
    show ((((twiceK (BitVec.ofNat 32 n)).toInt : ℤ) : ℝ) : EReal) * _ = _
    rw [hz, c05, ← EReal.coe_mul, dec, hd]
  interval_cases n
  · exact h 0 (by decide +kernel) (by norm_num [decR])
  · exact h 1 (by decide +kernel) (by norm_num [decR])
  · exact h 2 (by decide +kernel) (by norm_num [decR])
  · exact h 3 (by decide +kernel) (by norm_num [decR])
  · exact h 4 (by decide +kernel) (by norm_num [decR])
  · exact h 6 (by decide +kernel) (by norm_num [decR])
  · exact h 8 (by decide +kernel) (by norm_num [decR])
  · exact h 12 (by decide +kernel) (by norm_num [decR])
  · exact h 0 (by decide +kernel) (by norm_num [decR])
  · exact h (-1) (by decide +kernel) (by norm_num [decR])
  · exact h (-2) (by decide +kernel) (by norm_num [decR])
  · exact h (-3) (by decide +kernel) (by norm_num [decR])
  · exact h (-4) (by decide +kernel) (by norm_num [decR])
  · exact h (-6) (by decide +kernel) (by norm_num [decR])
  · exact h (-8) (by decide +kernel) (by norm_num [decR])
  · exact h (-12) (by decide +kernel) (by norm_num [decR])

/-- Bit `k` of a code, as the reference tests it. -/
def bitRef (x : BitVec 32) : BitVec 1 := IntOp.cmpi .eq (IntOp.andi x 1#32) 1#32

/-- The magnitude the reference selects by the code's three low bits. -/
def magRef (b0 b1 b2 : BitVec 1) : EReal :=
  Scalar.select b2
    (Scalar.select b1 (Scalar.select b0 (Ideal.ofBits .f32 0x40C00000#32) (Ideal.ofBits .f32 0x40800000#32))
      (Scalar.select b0 (Ideal.ofBits .f32 0x40400000#32) (Ideal.ofBits .f32 0x40000000#32)))
    (Scalar.select b1 (Scalar.select b0 (Ideal.ofBits .f32 0x3FC00000#32) 1)
      (Scalar.select b0 (Ideal.ofBits .f32 0x3F000000#32) 0))

def decRef (x : BitVec 32) : EReal :=
  Scalar.select (bitRef (IntOp.shrsi .vector x 3#32))
    (0 - magRef (bitRef x) (bitRef (IntOp.shrsi .vector x 1#32)) (bitRef (IntOp.shrsi .vector x 2#32)))
    (magRef (bitRef x) (bitRef (IntOp.shrsi .vector x 1#32)) (bitRef (IntOp.shrsi .vector x 2#32)))

theorem decRef_eq (n : ℕ) (hn : n < 16) : decRef (BitVec.ofNat 32 n) = dec n := by
  have h : ∀ b0 b1 b2 b3 : BitVec 1, bitRef (BitVec.ofNat 32 n) = b0 → bitRef (IntOp.shrsi .vector (BitVec.ofNat 32 n) 1#32) = b1 →
      bitRef (IntOp.shrsi .vector (BitVec.ofNat 32 n) 2#32) = b2 → bitRef (IntOp.shrsi .vector (BitVec.ofNat 32 n) 3#32) = b3 →
      Scalar.select b3 (0 - magRef b0 b1 b2) (magRef b0 b1 b2) = dec n → decRef (BitVec.ofNat 32 n) = dec n := by
    intro b0 b1 b2 b3 h0 h1 h2 h3 e
    unfold decRef; rw [h0, h1, h2, h3, e]
  have z : ∀ r : ℝ, (0 : EReal) - (r : EReal) = ((-r : ℝ) : EReal) := fun r => by
    rw [zero_sub, EReal.coe_neg]
  interval_cases n
  · exact h 0 0 0 0 (by decide +kernel) (by decide +kernel) (by decide +kernel) (by decide +kernel) (by simp [magRef, Scalar.select, dec, decR])
  · exact h 1 0 0 0 (by decide +kernel) (by decide +kernel) (by decide +kernel) (by decide +kernel) (by simp [magRef, Scalar.select, dec, decR, c05])
  · exact h 0 1 0 0 (by decide +kernel) (by decide +kernel) (by decide +kernel) (by decide +kernel) (by simp [magRef, Scalar.select, dec, decR])
  · exact h 1 1 0 0 (by decide +kernel) (by decide +kernel) (by decide +kernel) (by decide +kernel) (by simp [magRef, Scalar.select, dec, decR, c15])
  · exact h 0 0 1 0 (by decide +kernel) (by decide +kernel) (by decide +kernel) (by decide +kernel) (by simp [magRef, Scalar.select, dec, decR, c2])
  · exact h 1 0 1 0 (by decide +kernel) (by decide +kernel) (by decide +kernel) (by decide +kernel) (by simp [magRef, Scalar.select, dec, decR, c3])
  · exact h 0 1 1 0 (by decide +kernel) (by decide +kernel) (by decide +kernel) (by decide +kernel) (by simp [magRef, Scalar.select, dec, decR, c4])
  · exact h 1 1 1 0 (by decide +kernel) (by decide +kernel) (by decide +kernel) (by decide +kernel) (by simp [magRef, Scalar.select, dec, decR, c6])
  · exact h 0 0 0 1 (by decide +kernel) (by decide +kernel) (by decide +kernel) (by decide +kernel) (by simp [magRef, Scalar.select, dec, decR])
  · exact h 1 0 0 1 (by decide +kernel) (by decide +kernel) (by decide +kernel) (by decide +kernel) (by simp [magRef, Scalar.select, dec, decR, c05])
  · exact h 0 1 0 1 (by decide +kernel) (by decide +kernel) (by decide +kernel) (by decide +kernel) (by simp [magRef, Scalar.select, dec, decR])
  · exact h 1 1 0 1 (by decide +kernel) (by decide +kernel) (by decide +kernel) (by decide +kernel) (by simp [magRef, Scalar.select, dec, decR, c15])
  · exact h 0 0 1 1 (by decide +kernel) (by decide +kernel) (by decide +kernel) (by decide +kernel) (by simp [magRef, Scalar.select, dec, decR, c2])
  · exact h 1 0 1 1 (by decide +kernel) (by decide +kernel) (by decide +kernel) (by decide +kernel) (by simp [magRef, Scalar.select, dec, decR, c3])
  · exact h 0 1 1 1 (by decide +kernel) (by decide +kernel) (by decide +kernel) (by decide +kernel) (by simp [magRef, Scalar.select, dec, decR, c4])
  · exact h 1 1 1 1 (by decide +kernel) (by decide +kernel) (by decide +kernel) (by decide +kernel) (by simp [magRef, Scalar.select, dec, decR, c6])

/-! ### The packed byte of two codes, on the reference's side -/

theorem packRef_eq (a b : ℕ) (ha : a < 16) (hb : b < 16) :
    IntOp.ori (BitVec.ofNat 32 a) (IntOp.shli .vector (BitVec.ofNat 32 b) 4#32) = BitVec.ofNat 32 (a + 16 * b) := by
  have := (by decide +kernel : ∀ a b : Fin 16, IntOp.ori (BitVec.ofNat 32 a.val) (IntOp.shli .vector (BitVec.ofNat 32 b.val) 4#32)
    = BitVec.ofNat 32 (a.val + 16 * b.val)) ⟨a, ha⟩ ⟨b, hb⟩
  exact this
theorem lowRef_eq (a b : ℕ) (ha : a < 16) (hb : b < 16) :
    IntOp.andi (BitVec.ofNat 32 (a + 16 * b)) 15#32 = BitVec.ofNat 32 a := by
  have := (by decide +kernel : ∀ a b : Fin 16, IntOp.andi (BitVec.ofNat 32 (a.val + 16 * b.val)) 15#32
    = BitVec.ofNat 32 a.val) ⟨a, ha⟩ ⟨b, hb⟩
  exact this
theorem highRef_eq (a b : ℕ) (ha : a < 16) (hb : b < 16) :
    IntOp.shrsi .vector (BitVec.ofNat 32 (a + 16 * b)) 4#32 = BitVec.ofNat 32 b := by
  have := (by decide +kernel : ∀ a b : Fin 16, IntOp.shrsi .vector (BitVec.ofNat 32 (a.val + 16 * b.val)) 4#32
    = BitVec.ofNat 32 b.val) ⟨a, ha⟩ ⟨b, hb⟩
  exact this
theorem lowByte (w : BitVec 8) : IntOp.andi (BitVec.setWidth 32 w) 15#32 = BitVec.ofNat 32 (w.toNat % 16) := by
  have := (by decide +kernel : ∀ w : Fin 256, IntOp.andi (BitVec.setWidth 32 (BitVec.ofNat 8 w.val)) 15#32 = BitVec.ofNat 32 (w.val % 16)) ⟨w.toNat, w.isLt⟩
  simpa using this
theorem highByte (w : BitVec 8) : IntOp.shrsi .vector (BitVec.setWidth 32 w) 4#32 = BitVec.ofNat 32 (w.toNat / 16) := by
  have := (by decide +kernel : ∀ w : Fin 256, IntOp.shrsi .vector (BitVec.setWidth 32 (BitVec.ofNat 8 w.val)) 4#32 = BitVec.ofNat 32 (w.val / 16)) ⟨w.toNat, w.isLt⟩
  simpa using this
/-- The two codes of a packed byte, as the kernel extracts them. -/
theorem nibByte (w : BitVec 8) (b : ℕ) (hb : b < 2) :
    IntOp.andi (IntOp.shrui .vector (BitVec.setWidth 32 w) (IntOp.muli 4#32 (BitVec.ofNat 32 b))) 15#32 = BitVec.ofNat 32 (w.toNat / 16 ^ b % 16) := by
  have := (by decide +kernel : ∀ (w : Fin 256) (b : Fin 2), IntOp.andi (IntOp.shrui .vector (BitVec.setWidth 32 (BitVec.ofNat 8 w.val)) (IntOp.muli 4#32 (BitVec.ofNat 32 b.val))) 15#32
    = BitVec.ofNat 32 (w.val / 16 ^ b.val % 16)) ⟨w.toNat, w.isLt⟩ ⟨b, hb⟩
  simpa using this

/-! ### A word of eight codes -/

theorem and_digit (c d a b : ℕ) (hc : c < 16) (hd : d < 16) : (c + 16 * a) &&& (d + 16 * b) = (c &&& d) + 16 * (a &&& b) := by
  apply Nat.eq_of_testBit_eq; intro i
  have hcd : c &&& d < 2 ^ 4 := Nat.and_lt_two_pow _ hd
  rw [Nat.testBit_and, show c + 16 * a = 2 ^ 4 * a + c by ring, show d + 16 * b = 2 ^ 4 * b + d by ring,
    show (c &&& d) + 16 * (a &&& b) = 2 ^ 4 * (a &&& b) + (c &&& d) by ring,
    Nat.testBit_two_pow_mul_add _ (show c < 2 ^ 4 from hc), Nat.testBit_two_pow_mul_add _ (show d < 2 ^ 4 from hd),
    Nat.testBit_two_pow_mul_add _ hcd]
  split_ifs <;> rw [Nat.testBit_and]
theorem or_digit (c d a b : ℕ) (hc : c < 16) (hd : d < 16) : (c + 16 * a) ||| (d + 16 * b) = (c ||| d) + 16 * (a ||| b) := by
  apply Nat.eq_of_testBit_eq; intro i
  have hcd : c ||| d < 2 ^ 4 := Nat.or_lt_two_pow (show c < 2 ^ 4 from hc) hd
  rw [Nat.testBit_or, show c + 16 * a = 2 ^ 4 * a + c by ring, show d + 16 * b = 2 ^ 4 * b + d by ring,
    show (c ||| d) + 16 * (a ||| b) = 2 ^ 4 * (a ||| b) + (c ||| d) by ring,
    Nat.testBit_two_pow_mul_add _ (show c < 2 ^ 4 from hc), Nat.testBit_two_pow_mul_add _ (show d < 2 ^ 4 from hd),
    Nat.testBit_two_pow_mul_add _ hcd]
  split_ifs <;> rw [Nat.testBit_or]

/-- The number whose `n` low digits, base sixteen, are `f 0`, `f 1`, …. -/
def pk : (n : ℕ) → (ℕ → ℕ) → ℕ
  | 0, _ => 0
  | n + 1, f => f 0 + 16 * pk n (fun i => f (i + 1))

theorem pk_lt (n : ℕ) (f : ℕ → ℕ) (hf : ∀ i < n, f i < 16) : pk n f < 16 ^ n := by
  induction n generalizing f with
  | zero => simp [pk]
  | succ n ih =>
    have h0 := hf 0 (by omega)
    have h1 := ih (fun i => f (i + 1)) (fun i hi => hf (i + 1) (by omega))
    simp only [pk, pow_succ]; omega

theorem pk_eq_sum (n : ℕ) (f : ℕ → ℕ) : pk n f = ∑ i : Fin n, f i.val * 16 ^ i.val := by
  induction n generalizing f with
  | zero => simp [pk]
  | succ n ih =>
    rw [pk, ih, Fin.sum_univ_succ, Finset.mul_sum]
    simp only [Fin.val_zero, pow_zero, mul_one, Fin.val_succ]
    congr 1
    exact Finset.sum_congr rfl fun i _ => by ring

theorem pk_and (n : ℕ) (f g : ℕ → ℕ) (hf : ∀ i < n, f i < 16) (hg : ∀ i < n, g i < 16) :
    pk n f &&& pk n g = pk n (fun i => f i &&& g i) := by
  induction n generalizing f g with
  | zero => simp [pk]
  | succ n ih =>
    simp only [pk]
    rw [and_digit _ _ _ _ (hf 0 (by omega)) (hg 0 (by omega)), ih _ _ (fun i hi => hf (i + 1) (by omega)) (fun i hi => hg (i + 1) (by omega))]
theorem pk_or (n : ℕ) (f g : ℕ → ℕ) (hf : ∀ i < n, f i < 16) (hg : ∀ i < n, g i < 16) :
    pk n f ||| pk n g = pk n (fun i => f i ||| g i) := by
  induction n generalizing f g with
  | zero => simp [pk]
  | succ n ih =>
    simp only [pk]
    rw [or_digit _ _ _ _ (hf 0 (by omega)) (hg 0 (by omega)), ih _ _ (fun i hi => hf (i + 1) (by omega)) (fun i hi => hg (i + 1) (by omega))]
theorem pk_add (n : ℕ) (f g : ℕ → ℕ) : pk n f + pk n g = pk n (fun i => f i + g i) := by
  induction n generalizing f g with
  | zero => simp [pk]
  | succ n ih => simp only [pk]; rw [← ih]; ring
theorem pk_congr (n : ℕ) (f g : ℕ → ℕ) (h : ∀ i < n, f i = g i) : pk n f = pk n g := by
  induction n generalizing f g with
  | zero => rfl
  | succ n ih => simp only [pk]; rw [h 0 (by omega), ih _ _ fun i hi => h (i + 1) (by omega)]
theorem pk_digit (n : ℕ) (f : ℕ → ℕ) (hf : ∀ i < n, f i < 16) (j : ℕ) (hj : j < n) : pk n f / 16 ^ j % 16 = f j := by
  induction n generalizing f j with
  | zero => omega
  | succ n ih =>
    have h0 := hf 0 (by omega)
    cases j with
    | zero => simp only [pk]; omega
    | succ j =>
      rw [← ih (fun i => f (i + 1)) (fun i hi => hf (i + 1) (by omega)) j (by omega)]
      simp only [pk, pow_succ']
      rw [← Nat.div_div_eq_div_mul]
      congr 2
      omega

/-- The word with the codes of negative zeros cleared. -/
def clearW (w : BitVec 32) : BitVec 32 := IntOp.andi w (IntOp.ori (IntOp.addi (IntOp.andi w 2004318071#32) 2004318071#32) 2004318071#32)

theorem clearW_toNat (w : BitVec 32) (f : ℕ → ℕ) (hf : ∀ i < 8, f i < 16) (hw : w.toNat = pk 8 f) :
    (clearW w).toNat = pk 8 (fun i => if f i = 8 then 0 else f i) := by
  have hM : (2004318071#32 : BitVec 32).toNat = pk 8 (fun _ => 7) := by decide +kernel
  have hs : ∀ i < 8, (f i &&& 7) + 7 < 16 := fun i hi => by
    have := Nat.and_le_right (n := f i) (m := 7); omega
  unfold clearW IntOp.andi IntOp.ori IntOp.addi
  rw [BitVec.toNat_and, BitVec.toNat_or, BitVec.toNat_add, BitVec.toNat_and, hw, hM, pk_and 8 _ _ hf (by intros; omega), pk_add,
    Nat.mod_eq_of_lt (lt_of_lt_of_le (pk_lt 8 _ hs) (by norm_num)), pk_or 8 _ _ hs (by intros; omega),
    pk_and 8 _ _ hf (fun i hi => Nat.or_lt_two_pow (n := 4) (hs i hi) (by norm_num))]
  refine pk_congr _ _ _ fun i hi => ?_
  have h := hf i hi
  generalize f i = c at h ⊢
  interval_cases c <;> rfl

/-- The word of eight codes, summed at four-bit offsets. -/
theorem sumW_toNat (e : Fin 8 → BitVec 32) (f : ℕ → ℕ) (hf : ∀ i < 8, f i < 16) (he : ∀ i : Fin 8, e i = BitVec.ofNat 32 (f i.val)) :
    (Finset.fold IntOp.addi 0#32 (fun x : Fin 8 => IntOp.shli .vector (e x) (IntOp.muli 4#32 (BitVec.ofNat 32 x.val))) Finset.univ).toNat = pk 8 f := by
  have hsh : ∀ x : Fin 8, (IntOp.shli .vector (e x) (IntOp.muli 4#32 (BitVec.ofNat 32 x.val))).toNat = f x.val * 16 ^ x.val := by
    intro x
    have h := (by decide +kernel : ∀ (c : Fin 16) (x : Fin 8), (IntOp.shli .vector (BitVec.ofNat 32 c.val) (IntOp.muli 4#32 (BitVec.ofNat 32 x.val))).toNat
      = c.val * 16 ^ x.val) ⟨f x.val, hf _ x.isLt⟩ x
    rw [he]; exact h
  have hfold : Finset.fold IntOp.addi 0#32 (fun x : Fin 8 => IntOp.shli .vector (e x) (IntOp.muli 4#32 (BitVec.ofNat 32 x.val))) Finset.univ
      = ∑ x : Fin 8, IntOp.shli .vector (e x) (IntOp.muli 4#32 (BitVec.ofNat 32 x.val)) := rfl
  rw [hfold, WordSum.toNat_sum]
  · rw [pk_eq_sum]; exact Finset.sum_congr rfl fun x _ => hsh x
  · rw [Finset.sum_congr rfl fun x _ => hsh x, ← pk_eq_sum]
    exact lt_of_lt_of_le (pk_lt 8 f hf) (by norm_num)

/-- A code of the word, as the kernel extracts it. -/
theorem nibW (w : BitVec 32) (f : ℕ → ℕ) (hf : ∀ i < 8, f i < 16) (hw : w.toNat = pk 8 f) (j : ℕ) (hj : j < 8) :
    IntOp.andi (IntOp.shrui .vector w (IntOp.muli 4#32 (BitVec.ofNat 32 j))) 15#32 = BitVec.ofNat 32 (f j) := by
  have hm : (IntOp.muli 4#32 (BitVec.ofNat 32 j)).toNat = 4 * j := by
    unfold IntOp.muli; rw [BitVec.toNat_mul, BitVec.toNat_ofNat]; simp; omega
  apply BitVec.eq_of_toNat_eq
  unfold IntOp.andi IntOp.shrui
  rw [if_pos (by omega), BitVec.toNat_and, BitVec.ushiftRight_eq', BitVec.toNat_ushiftRight, hm, hw, BitVec.toNat_ofNat, BitVec.toNat_ofNat,
    show 15 % 2 ^ 32 = 2 ^ 4 - 1 by norm_num, Nat.and_two_pow_sub_one_eq_mod, Nat.shiftRight_eq_div_pow,
    show (2 : ℕ) ^ (4 * j) = 16 ^ j by rw [pow_mul]; norm_num]
  show _ % 16 = _
  rw [pk_digit 8 f hf j hj, Nat.mod_eq_of_lt (by have := hf j hj; omega)]

/-- A byte of the word is two of its codes. -/
theorem byteW (w : BitVec 32) (f : ℕ → ℕ) (hf : ∀ i < 8, f i < 16) (hw : w.toNat = pk 8 f) (b : ℕ) (hb : b < 4) (v : BitVec 8)
    (hv : ∀ q, q < 8 → v.getLsbD q = w.getLsbD (8 * b + q)) : v = BitVec.ofNat 8 (f (2 * b) + 16 * f (2 * b + 1)) := by
  have h1 : v = BitVec.ofNat 8 (w.toNat / 16 ^ (2 * b)) := by
    apply BitVec.eq_of_getLsbD_eq; intro q hq
    rw [hv q hq, BitVec.getLsbD_ofNat, show (16 : ℕ) ^ (2 * b) = 2 ^ (8 * b) by rw [pow_mul, pow_mul]; norm_num, Nat.testBit_div_two_pow]
    simp [hq, BitVec.getLsbD, Nat.add_comm]
  rw [h1, hw]
  apply BitVec.eq_of_toNat_eq
  have d0 := pk_digit 8 f hf (2 * b) (by omega)
  have d1 := pk_digit 8 f hf (2 * b + 1) (by omega)
  rw [pow_succ, ← Nat.div_div_eq_div_mul] at d1
  have := hf (2 * b) (by omega)
  have := hf (2 * b + 1) (by omega)
  rw [BitVec.toNat_ofNat, BitVec.toNat_ofNat]
  omega

end Cert.Own
-- ==== Proof.Spec.lean ====
/- One token's quantisation as functions of its scaled activations: group scales, codes, packed bytes, dequantised values. -/
module

public import proofs.«01_k».proof.Proof.Words

@[expose] public section

set_option maxRecDepth 16384

noncomputable section

namespace Cert.Own

open Idealize.ShloMosaic

/-- The scale of a group whose largest magnitude is `a`. -/
def sfOf (g a : EReal) : EReal :=
  if min (Ideal.ofBits .f32 0x43E00000#32) (max 0 (Ideal.div a (Ideal.ofBits .f32 0x40C00000#32 * g))) = 0 then 1
  else min (Ideal.ofBits .f32 0x43E00000#32) (max 0 (Ideal.div a (Ideal.ofBits .f32 0x40C00000#32 * g)))

/-- The largest magnitude of a group. -/
def amax (f : Fin 16 → EReal) : EReal :=
  Finset.fold max (Ideal.ofBits .f32 0xFF800000#32) (fun x => FloatOps.absf (F := Ideal) (φ := .f32) (f x)) Finset.univ

theorem sfOf_real (g a : EReal) : ∃ s : ℝ, 0 < s ∧ sfOf g a = (s : EReal) := by
  unfold sfOf
  split_ifs with h
  · exact ⟨1, one_pos, rfl⟩
  · rw [c448] at h ⊢
    generalize Ideal.div a (Ideal.ofBits .f32 0x40C00000#32 * g) = x at h ⊢
    have h0 : (0 : EReal) ≤ min ((448 : ℝ) : EReal) (max 0 x) := le_min (by exact_mod_cast (by norm_num : (0 : ℝ) ≤ 448)) (le_max_left _ _)
    have h1 : min ((448 : ℝ) : EReal) (max 0 x) ≤ ((448 : ℝ) : EReal) := min_le_left _ _
    generalize min ((448 : ℝ) : EReal) (max 0 x) = y at h h0 h1 ⊢
    induction y with
    | bot => simp at h0
    | top => simp at h1
    | coe y => exact ⟨y, lt_of_le_of_ne (by exact_mod_cast h0) (fun e => h (by rw [← e]; rfl)), rfl⟩

/-- Group `a`'s scale. -/
def SF (g : EReal) (v : ℕ → EReal) (a : ℕ) : EReal := sfOf g (amax fun b => v (a * 16 + b.val))
/-- Element `n`'s quotient by its scale. -/
def TQ (g : EReal) (v : ℕ → EReal) (n : ℕ) : EReal := Ideal.div (v n) (SF g v (n / 16) * g)
/-- Element `n`'s code. -/
def CD (g : EReal) (v : ℕ → EReal) (n : ℕ) : ℕ := cd (TQ g v n).toReal
/-- Byte `i`: the codes of elements `2 i` and `2 i + 1`. -/
def PB (g : EReal) (v : ℕ → EReal) (i : ℕ) : BitVec 8 := BitVec.ofNat 8 (CD g v (2 * i) + 16 * CD g v (2 * i + 1))
/-- Element `n` dequantised, its scale multiplied by `f`. -/
def XQ (g f : EReal) (v : ℕ → EReal) (n : ℕ) : EReal := dec (CD g v n) * (SF g v (n / 16) * f)

theorem CD_lt (g : EReal) (v : ℕ → EReal) (n : ℕ) : CD g v n < 16 := cd_lt _

theorem SF_real (g : EReal) (v : ℕ → EReal) (a : ℕ) : ∃ s : ℝ, 0 < s ∧ SF g v a = (s : EReal) := sfOf_real _ _

theorem SFg_ne {g : EReal} {γ : ℝ} (hg : g = (γ : EReal)) (h0 : γ ≠ 0) (v : ℕ → EReal) (a : ℕ) : ∃ s : ℝ, s ≠ 0 ∧ SF g v a * g = (s : EReal) := by
  obtain ⟨s, hs, e⟩ := SF_real g v a
  exact ⟨s * γ, mul_ne_zero hs.ne' h0, by rw [e, hg, EReal.coe_mul]⟩

theorem TQ_real {g : EReal} {γ : ℝ} (hg : g = (γ : EReal)) (h0 : γ ≠ 0) (v : ℕ → EReal) (n : ℕ) {x : ℝ} (hv : v n = (x : EReal)) :
    TQ g v n = (((TQ g v n).toReal : ℝ) : EReal) := by
  obtain ⟨s, hs, e⟩ := SFg_ne hg h0 v (n / 16)
  unfold TQ
  rw [e, hv, Ideal.div_coe hs, ← EReal.coe_mul, EReal.toReal_coe]

/-- The reciprocal multiplied in is the quotient. -/
theorem TQ_eq_mul {g : EReal} {γ : ℝ} (hg : g = (γ : EReal)) (h0 : γ ≠ 0) (v : ℕ → EReal) (n : ℕ) :
    v n * Ideal.div 1 (SF g v (n / 16) * g) = TQ g v n := by
  obtain ⟨s, hs, e⟩ := SFg_ne hg h0 v (n / 16)
  unfold TQ
  rw [e]
  exact Ideal.mul_one_div (by exact_mod_cast hs)

end Cert.Own
-- ==== Proof.KernelIdeal.StepValues.lean ====
/- What a step of the quantising call stores, element by element, over the extended reals. -/
module

public import proofs.«01_k».proof.Proof.KernelIdeal.Steps
public import proofs.«01_k».proof.Proof.Spec

@[expose] public section

set_option maxRecDepth 16384

noncomputable section

namespace Cert.KernelIdeal.Own

open Cert.KernelIdeal.Gen Cert.Own
open Idealize.ShloMosaic Idealize.ShloMosaic.TcCoe Idealize.SL.Sem

theorem pay9_at (g : EReal) (v4 : FVec Ideal S1x64 .f32) (v9 : FVec Ideal S64x128 .bf16) (a : Fin 4) (l : Fin 128) :
    k0_pay9 (F := Ideal) g v4 v9 (ix2 a l)
      = sfOf g (amax fun b => v9 (ix2 ⟨a.val * 16 + b.val, by omega⟩ l) * v4 (ix2 0 ⟨a.val * 16 + b.val, by omega⟩)) := by
  pointwise [k0_pay9, k0_pay8, k0_pay6]
  rfl

theorem pay12_at (g : EReal) (v4 : FVec Ideal S1x64 .f32) (v9 : FVec Ideal S64x128 .bf16) (r : Fin 64) (l : Fin 128) :
    k0_pay12 (F := Ideal) (k0_pay8 v4 v9) (k0_pay11 g v4 v9) (ix2 r l)
      = min (Ideal.ofBits .f32 0x40C00000#32) (max (Ideal.ofBits .f32 0xC0C00000#32)
          (v9 (ix2 r l) * v4 (ix2 0 r) * Ideal.div 1 (k0_pay9 (F := Ideal) g v4 v9 (ix2 ⟨r.val / 16, by omega⟩ l) * g))) := by
  pointwise [k0_pay12, k0_pay11, k0_pay8, k0_pay6]

theorem pay16_at (v17 : FVec Ideal S4x16x128 .f32) (v38 : FVec Ideal S4x128 .f32) (r : Fin 8) (l : Fin 128) :
    k0_pay16 (F := Ideal) (k0_pay12 v17 v38) (k0_pay13 v17 v38) (k0_pay14 v17 v38) (k0_pay15 v17 v38) 1#32 0#32 (ix2 r l)
      = clearW (Finset.fold IntOp.addi 0#32 (fun x : Fin 8 => IntOp.shli .vector (encK (k0_pay12 v17 v38 (ix2 ⟨r.val * 8 + x.val, by omega⟩ l)))
          (IntOp.muli 4#32 (BitVec.ofNat 32 x.val))) Finset.univ) := by
  pointwise [k0_pay16, k0_pay13, k0_pay14, k0_pay15]
  rfl

variable {g : EReal} {γ : ℝ} (hg : g = (γ : EReal)) (h0 : γ ≠ 0) (v4 : FVec Ideal S1x64 .f32) (v9 : FVec Ideal S64x128 .bf16) (w : ℕ → EReal) (k : ℕ) (l : Fin 128)
  (hw : ∀ r : Fin 64, v9 (ix2 r l) * v4 (ix2 0 r) = w (64 * k + r.val)) (hr : ∀ n, ∃ x : ℝ, w n = (x : EReal))

include hw in
theorem scale_at (a : Fin 4) : k0_pay9 (F := Ideal) g v4 v9 (ix2 a l) = SF g w (4 * k + a.val) := by
  rw [pay9_at]
  unfold SF
  congr 2
  funext b
  rw [hw]
  congr 1
  show 64 * k + (a.val * 16 + b.val) = _
  ring

include hw hg h0 hr in
theorem code_at (r : Fin 64) : encK (k0_pay12 (F := Ideal) (k0_pay8 v4 v9) (k0_pay11 g v4 v9) (ix2 r l)) = BitVec.ofNat 32 (ck (TQ g w (64 * k + r.val)).toReal) := by
  rw [pay12_at, scale_at v4 v9 w k l hw, hw]
  have e : 4 * k + r.val / 16 = (64 * k + r.val) / 16 := by omega
  obtain ⟨x, hx⟩ := hr (64 * k + r.val)
  show encK (min _ (max _ (w (64 * k + r.val) * Ideal.div 1 (SF g w (4 * k + r.val / 16) * g)))) = _
  rw [e, TQ_eq_mul hg h0, TQ_real hg h0 w _ hx, encK_eq, EReal.toReal_coe]

include hw hg h0 hr in
/-- The cleared word of eight codes. -/
theorem word_at (r : Fin 8) :
    (k0_pay16 (F := Ideal) (k0_pay12 (F := Ideal) (k0_pay8 (F := Ideal) v4 v9) (k0_pay11 (F := Ideal) g v4 v9)) (k0_pay13 (F := Ideal) (k0_pay8 (F := Ideal) v4 v9) (k0_pay11 (F := Ideal) g v4 v9))
      (k0_pay14 (F := Ideal) (k0_pay8 (F := Ideal) v4 v9) (k0_pay11 (F := Ideal) g v4 v9))
      (k0_pay15 (F := Ideal) (k0_pay8 (F := Ideal) v4 v9) (k0_pay11 (F := Ideal) g v4 v9)) 1#32 0#32 (ix2 r l)).toNat = pk 8 (fun i => CD g w (64 * k + (r.val * 8 + i))) := by
  rw [pay16_at, clearW_toNat _ (fun i => ck (TQ g w (64 * k + (r.val * 8 + i))).toReal) (fun i _ => ck_lt _)]
  · rfl
  · refine sumW_toNat _ _ (fun i _ => ck_lt _) fun i => ?_
    exact code_at hg h0 v4 v9 w k l hw hr ⟨r.val * 8 + i.val, by omega⟩

include hw hg h0 hr in
theorem nib_at (r : Fin 64) : stN (F := Ideal) g v4 v9 (ix2 r l) = BitVec.ofNat 32 (CD g w (64 * k + r.val)) := by
  unfold stN
  pointwise [k0_pay18]
  have h := nibW _ (fun i => CD g w (64 * k + (r.val / 8 * 8 + i))) (fun i _ => CD_lt _ _ _) (word_at hg h0 v4 v9 w k l hw hr ⟨r.val / 8, by omega⟩) (r.val % 8) (by omega)
  refine h.trans ?_
  show BitVec.ofNat 32 (CD g w (64 * k + (r.val / 8 * 8 + r.val % 8))) = _
  rw [show r.val / 8 * 8 + r.val % 8 = r.val by omega]

include hw hg h0 hr in
theorem quant_at (f : EReal) (r : Fin 64) : stQ (F := Ideal) g f v4 v9 (ix2 r l) = XQ g f w (64 * k + r.val) := by
  have hN := nib_at hg h0 v4 v9 w k l hw hr r
  have e : k0_pay20 (F := Ideal) f (k0_pay9 (F := Ideal) g v4 v9) (stN (F := Ideal) g v4 v9) (stM (F := Ideal) g v4 v9) (ix2 r l)
      = decK (stN (F := Ideal) g v4 v9 (ix2 r l)) * (k0_pay9 (F := Ideal) g v4 v9 (ix2 ⟨r.val / 16, by omega⟩ l) * f) := by
    pointwise [k0_pay20]
    rfl
  unfold stQ
  rw [e, hN, decK_eq _ (CD_lt _ _ _), scale_at v4 v9 w k l hw]
  have e : 4 * k + r.val / 16 = (64 * k + r.val) / 16 := by omega
  show _ * (SF g w (4 * k + r.val / 16) * f) = _
  rw [e]; rfl

include hw hg h0 hr in
theorem byte_at (p : Fin 32) : stP (F := Ideal) g v4 v9 (ix2 p l) = PB g w (32 * k + p.val) := by
  have h := byteW _ (fun i => CD g w (64 * k + (p.val / 4 * 8 + i))) (fun i _ => CD_lt _ _ _) (word_at hg h0 v4 v9 w k l hw hr ⟨p.val / 4, by omega⟩) (p.val % 4) (by omega)
    (stP (F := Ideal) g v4 v9 (ix2 p l)) ?_
  · rw [h]
    unfold PB
    have e1 : 64 * k + (p.val / 4 * 8 + 2 * (p.val % 4)) = 2 * (32 * k + p.val) := by omega
    have e2 : 64 * k + (p.val / 4 * 8 + (2 * (p.val % 4) + 1)) = 2 * (32 * k + p.val) + 1 := by omega
    simp only [e1, e2]
  · intro q hq
    unfold stP k0_pay17
    rw [bitcast_getLsbD _ _ _ q hq (by norm_num)]
    have hrow : S32x128.row (ix2 p l) = p.val := rfl
    have e1 : (p.val * 8 + q) / 32 = p.val / 4 := by omega
    have e2 : (p.val * 8 + q) % 32 = 8 * (p.val % 4) + q := by omega
    simp only [hrow, e2]
    congr 2
    funext a
    apply Fin.ext
    fin_cases a
    · rw [Shape.Bitcasts.srcIdx_row _ _ _ _ _ rfl]; exact e1
    · rw [Shape.Bitcasts.srcIdx_other _ _ _ _ _ (by decide)]; rfl

end Cert.KernelIdeal.Own
-- ==== Proof.KernelIdeal.QuantValues.lean ====
/- What a grid point of the quantising call leaves in its output blocks, element by element, as functions of its input blocks. -/
module

public import proofs.«01_k».proof.Proof.KernelIdeal.StepValues
public import Idealize.ShloMosaic.Lib.WholeRead
public import Idealize.ShloMosaic.Lib.Writes

@[expose] public section

set_option maxRecDepth 16384

noncomputable section

namespace Cert.KernelIdeal.Own

open Cert.KernelIdeal.Gen Cert.Own
open Idealize.ShloMosaic Idealize.ShloMosaic.TcCoe Idealize.SL.Sem Idealize.ShloMosaic.Tactic

/-- Column `l` of a block of activations, scaled. -/
def colB (x2 : FVec Ideal S2240x128 .bf16) (x3 : FVec Ideal S1x2240 .f32) (l : Fin 128) (n : ℕ) : EReal :=
  if h : n < 2240 then x2 (ix2 ⟨n, h⟩ l) * x3 (ix2 0 ⟨n, h⟩) else 0

variable (c : Dev nD) (i : grid0.Coords) (arg1 : Memref sig .tc .smem S1 .f32) (harg1 : arg1.IsWhole) (arg2 : Memref sig .tc .smem S3 .f32) (harg2 : arg2.IsWhole) (arg3 : Memref sig .tc .vmem S2240x128 .bf16) (harg3 : arg3.IsWhole) (arg4 : Memref sig .tc .vmem S1x2240 .f32) (harg4 : arg4.IsWhole) (arg5 : Memref sig .tc .vmem S32x2240 .bf16) (harg5 : arg5.IsWhole) (arg6 : Memref sig .tc .vmem S1120x128 .i8) (harg6 : arg6.IsWhole) (arg7 : Memref sig .tc .vmem S140x128 .fp8e4m3) (harg7 : arg7.IsWhole) (arg8 : Memref sig .tc .vmem S2304x128 .bf16) (harg8 : arg8.IsWhole) (arg9 : Memref sig .tc .vmem S2240x128 .bf16) (harg9 : arg9.IsWhole)
    (x0 : Vec Ideal S1 .f32) (x1 : Vec Ideal S3 .f32) (x2 : Vec Ideal S2240x128 .bf16) (x3 : Vec Ideal S1x2240 .f32) (x4 : Vec Ideal S32x2240 .bf16)

theorem ldX_at (k : Fin 35) (r : Fin 64) (l : Fin 128) : ldX arg3 harg3 x2 k (ix2 r l) = x2 (ix2 ⟨64 * k.val + r.val, by omega⟩ l) := by
  refine (harg3.readAt_unread x2 _ _).trans (congrArg x2 ?_)
  funext a; apply Fin.ext; fin_cases a
  · show 64 * k.val + 1 * r.val = _; rw [one_mul]; rfl
  · show 0 + 1 * l.val = _; rw [one_mul, zero_add]; rfl
theorem ldS_at (k : Fin 35) (r : Fin 64) : ldS arg4 harg4 x3 k (ix2 0 r) = x3 (ix2 0 ⟨64 * k.val + r.val, by omega⟩) := by
  refine (harg4.readAt_unread x3 _ _).trans (congrArg x3 ?_)
  funext a; apply Fin.ext; fin_cases a
  · rfl
  · show 64 * k.val + 1 * r.val = _; rw [one_mul]; rfl
theorem ldG_eq : ldG arg1 harg1 x0 = x0 (ix1 0) := by
  refine (harg1.readAt_unread x0 _ _).trans (congrArg x0 ?_)
  funext a; apply Fin.ext; fin_cases a; rfl
theorem ldC_eq (n : Fin 3) : ldC arg2 harg2 x1 n = x1 (ix1 n) := by
  refine (harg2.readAt_unread x1 _ _).trans (congrArg x1 ?_)
  funext a; apply Fin.ext; fin_cases a; rfl
theorem ldL_eq : ldL arg5 harg5 x4 = x4 := by
  funext y
  refine (harg5.readAt_unread x4 _ _).trans (congrArg x4 ?_)
  funext a; apply Fin.ext; fin_cases a
  · show 0 + 1 * (y 0).val = _; rw [one_mul, zero_add]; rfl
  · show 0 + 1 * (y 1).val = _; rw [one_mul, zero_add]; rfl

theorem step_col (k : Fin 35) (l : Fin 128) (r : Fin 64) :
    (show EReal from ldX arg3 harg3 x2 k (ix2 r l)) * (show EReal from ldS arg4 harg4 x3 k (ix2 0 r)) = colB x2 x3 l (64 * k.val + r.val) := by
  rw [ldX_at, ldS_at]; unfold colB; rw [dif_pos (by omega)]

/-- The scratch buffer read back is the scaled activations. -/
theorem ldB_at (n : Fin 2240) (l : Fin 128) : ldB arg3 harg3 arg4 harg4 arg9 x2 x3 (ix2 n l) = colB x2 x3 l n.val := by
  have h := View.read_writes_apply_of_pieces arg9.view arg9.view.junk (fun y => colB x2 x3 (y 1) (y 0).val) (xsbPieces arg3 harg3 arg4 harg4 x2 x3) ?_
    ((Rect.unit (s := S2240x128) ![0, 0] S2240x128.size inb_S2240x128_S2240x128_0_0).toLoadRect.idx (ix2 n l))
    (View.cover_of_tiledL (xsbPieces arg3 harg3 arg4 harg4 x2 x3) S64x128.size (by sl_kernel_rfl) _)
  · refine h.trans ?_
    show colB x2 x3 _ _ = _
    congr 1
    · apply Fin.ext; show 0 + 1 * l.val = _; rw [one_mul, zero_add]
    · show 0 + 1 * n.val = _; rw [one_mul, zero_add]
  · intro p hp x
    obtain ⟨k, -, rfl⟩ := List.mem_map.1 hp
    obtain ⟨r, l, rfl⟩ : ∃ (r : Fin 64) (l : Fin 128), x = ix2 r l := ⟨x 0, x 1, eq_ix2 x⟩
    have e : k0_pay7 (F := Ideal) (ldS arg4 harg4 x3 k) (ldX arg3 harg3 x2 k) (ix2 r l)
        = (show EReal from ldX arg3 harg3 x2 k (ix2 r l)) * (show EReal from ldS arg4 harg4 x3 k (ix2 0 r)) := by
      pointwise [k0_pay7, k0_pay6]
    refine e.trans ((step_col arg3 harg3 arg4 harg4 x2 x3 k l r).trans ?_)
    show colB x2 x3 _ _ = colB x2 x3 _ _
    congr 1
    · apply Fin.ext; show l.val = 0 + 1 * l.val; rw [one_mul, zero_add]
    · show _ = 64 * k.val + 1 * r.val; rw [one_mul]

section
variable {γ : ℝ} (hg : x0 (ix1 0) = (γ : EReal)) (h0 : γ ≠ 0) (hr : ∀ l n, ∃ x : ℝ, colB x2 x3 l n = (x : EReal))

include hg h0 hr in
theorem out5_at (y : S1120x128.Idx) : out0_A_5 c i arg1 harg1 arg2 harg2 arg3 harg3 arg4 harg4 arg5 harg5 arg6 harg6 arg7 harg7 arg8 harg8 arg9 harg9 x0 x1 x2 x3 x4 y = PB (x0 (ix1 0)) (colB x2 x3 (y 1)) (y 0).val := by
  refine View.read_writes_apply_of_pieces VO0_5 VO0_5.junk (fun y => PB (x0 (ix1 0)) (colB x2 x3 (y 1)) (y 0).val) _ ?_ y (cover0_A_5 c i arg1 harg1 arg2 harg2 arg3 harg3 arg4 harg4 arg5 harg5 arg6 harg6 arg7 harg7 arg8 harg8 arg9 harg9 x0 x1 x2 x3 x4 y)
  intro p hp x
  rw [pieces5] at hp
  obtain ⟨k, -, rfl⟩ := List.mem_map.1 hp
  obtain ⟨r, l, rfl⟩ : ∃ (r : Fin 32) (l : Fin 128), x = ix2 r l := ⟨x 0, x 1, eq_ix2 x⟩
  rw [← ldG_eq arg1 harg1 x0] at hg
  refine (byte_at hg h0 _ _ (colB x2 x3 l) k.val l (step_col arg3 harg3 arg4 harg4 x2 x3 k l) (hr l) r).trans ?_
  rw [ldG_eq]
  show PB _ (colB x2 x3 _) _ = PB _ (colB x2 x3 _) _
  congr 1
  · congr 1; apply Fin.ext; show l.val = 0 + 1 * l.val; rw [one_mul, zero_add]
  · show _ = 32 * k.val + 1 * r.val; rw [one_mul]

theorem out6_at (y : S140x128.Idx) : out0_A_6 c i arg1 harg1 arg2 harg2 arg3 harg3 arg4 harg4 arg5 harg5 arg6 harg6 arg7 harg7 arg8 harg8 arg9 harg9 x0 x1 x2 x3 x4 y = SF (x0 (ix1 0)) (colB x2 x3 (y 1)) (y 0).val := by
  refine View.read_writes_apply_of_pieces VO0_6 VO0_6.junk (fun y => SF (x0 (ix1 0)) (colB x2 x3 (y 1)) (y 0).val) _ ?_ y (cover0_A_6 c i arg1 harg1 arg2 harg2 arg3 harg3 arg4 harg4 arg5 harg5 arg6 harg6 arg7 harg7 arg8 harg8 arg9 harg9 x0 x1 x2 x3 x4 y)
  intro p hp x
  rw [pieces6] at hp
  obtain ⟨k, -, rfl⟩ := List.mem_map.1 hp
  obtain ⟨r, l, rfl⟩ : ∃ (r : Fin 4) (l : Fin 128), x = ix2 r l := ⟨x 0, x 1, eq_ix2 x⟩
  refine (scale_at (g := ldG arg1 harg1 x0) _ _ (colB x2 x3 l) k.val l (step_col arg3 harg3 arg4 harg4 x2 x3 k l) r).trans ?_
  rw [ldG_eq]
  show SF _ (colB x2 x3 _) _ = SF _ (colB x2 x3 _) _
  congr 1
  · congr 1; apply Fin.ext; show l.val = 0 + 1 * l.val; rw [one_mul, zero_add]
  · show _ = 4 * k.val + 1 * r.val; rw [one_mul]

/-- Row `r` of the low-rank product, scaled. -/
def lowB (x1 : FVec Ideal S3 .f32) (x2 : FVec Ideal S2240x128 .bf16) (x3 : FVec Ideal S1x2240 .f32) (x4 : FVec Ideal S32x2240 .bf16) (r : Fin 32) (l : Fin 128) : EReal :=
  (∑ n : Fin 2240, x4 (ix2 r n) * colB x2 x3 l n.val) * x1 (ix1 0)

/-- The block of the 2304 rows: the dequantised activations, the low-rank rows, and what is left of them. -/
def xqB (x0 : FVec Ideal S1 .f32) (x1 : FVec Ideal S3 .f32) (x2 : FVec Ideal S2240x128 .bf16) (x3 : FVec Ideal S1x2240 .f32) (x4 : FVec Ideal S32x2240 .bf16) (n : Fin 2304) (l : Fin 128) : EReal :=
  if h : n.val < 2240 then XQ (x0 (ix1 0)) (x1 (ix1 1)) (colB x2 x3 l) n.val
  else if h2 : n.val < 2272 then lowB x1 x2 x3 x4 ⟨n.val - 2240, by omega⟩ l
  else lowB x1 x2 x3 x4 ⟨n.val - 2272, by omega⟩ l - lowB x1 x2 x3 x4 ⟨n.val - 2272, by omega⟩ l

theorem pay3_at (f : EReal) (v : FVec Ideal S32x2240 .bf16) (b : FVec Ideal S2240x128 .bf16) (r : Fin 32) (l : Fin 128) :
    k0_pay3 (F := Ideal) f v b (ix2 r l) = (∑ x : Fin 2240, v (ix2 r x) * b (ix2 x l)) * f := by
  pointwise [k0_pay3, k0_pay2]
theorem pay4_at (f : EReal) (v : FVec Ideal S32x2240 .bf16) (b : FVec Ideal S2240x128 .bf16) (r : Fin 32) (l : Fin 128) :
    k0_pay4 (F := Ideal) f v b (ix2 r l) = (∑ x : Fin 2240, v (ix2 r x) * b (ix2 x l)) * f - (∑ x : Fin 2240, v (ix2 r x) * b (ix2 x l)) * f := by
  pointwise [k0_pay4, k0_pay3, k0_pay2]

theorem low_eq (r : Fin 32) (l : Fin 128) :
    (∑ x : Fin 2240, (show EReal from ldL arg5 harg5 x4 (ix2 r x)) * (show EReal from ldB arg3 harg3 arg4 harg4 arg9 x2 x3 (ix2 x l))) * (show EReal from ldC arg2 harg2 x1 0)
      = lowB x1 x2 x3 x4 r l := by
  unfold lowB
  rw [ldC_eq, ldL_eq]
  exact Ideal.mul_congr (Finset.sum_congr rfl fun x _ => Ideal.mul_congr rfl (ldB_at arg3 harg3 arg4 harg4 arg9 x2 x3 x l)) rfl

include hg h0 hr in
theorem out7_at (y : S2304x128.Idx) : out0_A_7 c i arg1 harg1 arg2 harg2 arg3 harg3 arg4 harg4 arg5 harg5 arg6 harg6 arg7 harg7 arg8 harg8 arg9 harg9 x0 x1 x2 x3 x4 y = xqB x0 x1 x2 x3 x4 (y 0) (y 1) := by
  refine View.read_writes_apply_of_pieces VO0_7 VO0_7.junk (fun y => xqB x0 x1 x2 x3 x4 (y 0) (y 1)) _ ?_ y (cover0_A_7 c i arg1 harg1 arg2 harg2 arg3 harg3 arg4 harg4 arg5 harg5 arg6 harg6 arg7 harg7 arg8 harg8 arg9 harg9 x0 x1 x2 x3 x4 y)
  intro p hp x
  rw [pieces7] at hp
  rcases List.mem_cons.1 hp with rfl | hp
  · obtain ⟨r, l, rfl⟩ : ∃ (r : Fin 32) (l : Fin 128), x = ix2 r l := ⟨x 0, x 1, eq_ix2 x⟩
    refine (pay4_at _ _ _ r l).trans ?_
    have e := low_eq arg2 harg2 arg3 harg3 arg4 harg4 arg5 harg5 arg9 x1 x2 x3 x4 r l
    have hl : (⟨0 + 1 * l.val, by omega⟩ : Fin 128) = l := by apply Fin.ext; show 0 + 1 * l.val = _; rw [one_mul, zero_add]
    show _ = xqB x0 x1 x2 x3 x4 ⟨2272 + 1 * r.val, by omega⟩ ⟨0 + 1 * l.val, by omega⟩
    unfold xqB
    rw [dif_neg (by show ¬ 2272 + 1 * r.val < 2240; omega), dif_neg (by show ¬ 2272 + 1 * r.val < 2272; omega), hl]
    have hrr : (⟨2272 + 1 * r.val - 2272, by omega⟩ : Fin 32) = r := by apply Fin.ext; show 2272 + 1 * r.val - 2272 = _; omega
    show _ = lowB x1 x2 x3 x4 ⟨2272 + 1 * r.val - 2272, _⟩ l - lowB x1 x2 x3 x4 ⟨2272 + 1 * r.val - 2272, _⟩ l
    rw [hrr, ← e]
  rcases List.mem_cons.1 hp with rfl | hp
  · obtain ⟨r, l, rfl⟩ : ∃ (r : Fin 32) (l : Fin 128), x = ix2 r l := ⟨x 0, x 1, eq_ix2 x⟩
    refine (pay3_at _ _ _ r l).trans ?_
    have e := low_eq arg2 harg2 arg3 harg3 arg4 harg4 arg5 harg5 arg9 x1 x2 x3 x4 r l
    have hl : (⟨0 + 1 * l.val, by omega⟩ : Fin 128) = l := by apply Fin.ext; show 0 + 1 * l.val = _; rw [one_mul, zero_add]
    show _ = xqB x0 x1 x2 x3 x4 ⟨2240 + 1 * r.val, by omega⟩ ⟨0 + 1 * l.val, by omega⟩
    unfold xqB
    rw [dif_neg (by show ¬ 2240 + 1 * r.val < 2240; omega), dif_pos (by show 2240 + 1 * r.val < 2272; omega), hl]
    have hrr : (⟨2240 + 1 * r.val - 2240, by omega⟩ : Fin 32) = r := by apply Fin.ext; show 2240 + 1 * r.val - 2240 = _; omega
    show _ = lowB x1 x2 x3 x4 ⟨2240 + 1 * r.val - 2240, _⟩ l
    rw [hrr, ← e]
  · obtain ⟨k, -, rfl⟩ := List.mem_map.1 hp
    obtain ⟨r, l, rfl⟩ : ∃ (r : Fin 64) (l : Fin 128), x = ix2 r l := ⟨x 0, x 1, eq_ix2 x⟩
    rw [← ldG_eq arg1 harg1 x0] at hg
    refine (quant_at hg h0 _ _ (colB x2 x3 l) k.val l (step_col arg3 harg3 arg4 harg4 x2 x3 k l) (hr l) _ r).trans ?_
    have hl : (⟨0 + 1 * l.val, by omega⟩ : Fin 128) = l := by apply Fin.ext; show 0 + 1 * l.val = _; rw [one_mul, zero_add]
    show _ = xqB x0 x1 x2 x3 x4 ⟨64 * k.val + 1 * r.val, by omega⟩ ⟨0 + 1 * l.val, by omega⟩
    unfold xqB
    rw [dif_pos (by show 64 * k.val + 1 * r.val < 2240; omega), hl, ldG_eq]
    show XQ _ (ldC arg2 harg2 x1 1) _ _ = XQ _ _ _ (64 * k.val + 1 * r.val)
    rw [ldC_eq, one_mul]
end

end Cert.KernelIdeal.Own
-- ==== Proof.KernelIdeal.QuantArrays.lean ====
/- What the quantising call leaves in its three output arrays, element by element, as functions of its input arrays. -/
module

public import proofs.«01_k».proof.Proof.KernelIdeal.QuantValues
public import Idealize.ShloMosaic.Lib.Pipeline.ValueKit

@[expose] public section

set_option maxRecDepth 16384

noncomputable section

namespace Cert.KernelIdeal.Own

open Cert.KernelIdeal.Gen Cert.Own
open Idealize.ShloMosaic Idealize.ShloMosaic.TcCoe Idealize.SL.Sem Idealize.ShloMosaic.Tactic
open Idealize.ShloMosaic.Pipeline (Dat)

/-- A token's scaled activations. -/
def colA (X : FVec Ideal S2240x1024 .bf16) (S : FVec Ideal S1x2240 .f32) (l : Fin 1024) (n : ℕ) : EReal :=
  if h : n < 2240 then X (ix2 ⟨n, h⟩ l) * S (ix2 0 ⟨n, h⟩) else 0

/-- Row `r` of a token's low-rank product, scaled. -/
def lowA (C : FVec Ideal S3 .f32) (X : FVec Ideal S2240x1024 .bf16) (S : FVec Ideal S1x2240 .f32) (L : FVec Ideal S32x2240 .bf16) (r : Fin 32) (l : Fin 1024) : EReal :=
  (∑ n : Fin 2240, L (ix2 r n) * colA X S l n.val) * C (ix1 0)

/-- The 2304 rows of a token. -/
def xqA (G : FVec Ideal S1 .f32) (C : FVec Ideal S3 .f32) (X : FVec Ideal S2240x1024 .bf16) (S : FVec Ideal S1x2240 .f32) (L : FVec Ideal S32x2240 .bf16) (n : Fin 2304) (l : Fin 1024) : EReal :=
  if h : n.val < 2240 then XQ (G (ix1 0)) (C (ix1 1)) (colA X S l) n.val
  else if h2 : n.val < 2272 then lowA C X S L ⟨n.val - 2240, by omega⟩ l
  else lowA C X S L ⟨n.val - 2272, by omega⟩ l - lowA C X S L ⟨n.val - 2272, by omega⟩ l

theorem idx0 : ∀ t : Fin cfg0.N, win0_0.index t = ![0] ∧ win0_1.index t = ![0] ∧ win0_2.index t = ![0, t.val] ∧ win0_3.index t = ![0, 0] ∧ win0_4.index t = ![0, 0]
    ∧ win0_5.index t = ![0, t.val] ∧ win0_6.index t = ![0, t.val] ∧ win0_7.index t = ![0, t.val] :=
  (by decide +kernel : ∀ t : Fin grid0.N, _)
theorem lt0 : ∀ t : Fin cfg0.N, t.val < 8 := (by decide +kernel : ∀ t : Fin grid0.N, _)

variable (V : (c : Dev nD) → (b : Ref sig .tc) → Buf (Elt Ideal) ((c : Thread nD τ).loc b)) (c : Dev nD)

theorem blk0_0 (t : Fin cfg0.N) : iblk0 V c 0 t = V c main_v12 := by blk_ext! [iblk0, idx0 t]
theorem blk0_1 (t : Fin cfg0.N) : iblk0 V c 1 t = V c main_v11 := by blk_ext! [iblk0, idx0 t]
theorem blk0_3 (t : Fin cfg0.N) : iblk0 V c 3 t = V c main_v13 := by blk_ext! [iblk0, idx0 t]
theorem blk0_4 (t : Fin cfg0.N) : iblk0 V c 4 t = V c main_v14 := by blk_ext! [iblk0, idx0 t]
theorem blk0_2 (t : Fin cfg0.N) (n : Fin 2240) (l : Fin 128) :
    iblk0 V c 2 t (ix2 n l) = V c main_v1 (ix2 n ⟨t.val * 128 + l.val, by have := lt0 t; omega⟩) := by
  blk_ext [iblk0, idx0 t]

/-- A block's column is the array's. -/
theorem colB_blk (t : Fin cfg0.N) (l : Fin 128) (l' : Fin 1024) (h : l'.val = t.val * 128 + l.val) :
    colB (iblk0 V c 2 t) (iblk0 V c 3 t) l = colA (V c main_v1) (V c main_v13) l' := by
  funext n; unfold colB colA
  split
  · rename_i hn
    have e : l' = ⟨t.val * 128 + l.val, by have := lt0 t; omega⟩ := Fin.ext h
    exact Ideal.mul_congr ((blk0_2 V c t ⟨n, hn⟩ l).trans (by rw [e])) (congrFun (blk0_3 V c t) _)
  · rfl

variable {γ : ℝ} (hg : V c main_v12 (ix1 0) = ((γ : ℝ) : EReal)) (h0 : γ ≠ 0)
  (hr : ∀ l n, ∃ x : ℝ, colA (V c main_v1) (V c main_v13) l n = ((x : ℝ) : EReal))

include hr in
theorem colB_real (t : Fin cfg0.N) : ∀ l n, ∃ x : ℝ, colB (iblk0 V c 2 t) (iblk0 V c 3 t) l n = ((x : ℝ) : EReal) := by
  intro l n
  rw [colB_blk V c t l ⟨t.val * 128 + l.val, by have := lt0 t; omega⟩ rfl]
  exact hr _ n

/-- A token of a block, in the array. -/
abbrev tokA (t : Fin cfg0.N) (l : Fin 128) : Fin 1024 := ⟨t.val * 128 + l.val, by have := lt0 t; omega⟩

theorem lowB_blk (t : Fin cfg0.N) (r : Fin 32) (l : Fin 128) :
    lowB (iblk0 V c 1 t) (iblk0 V c 2 t) (iblk0 V c 3 t) (iblk0 V c 4 t) r l = lowA (V c main_v11) (V c main_v1) (V c main_v13) (V c main_v14) r (tokA t l) := by
  unfold lowB lowA
  rw [colB_blk V c t l (tokA t l) rfl, blk0_1, blk0_4]

theorem xqB_blk (t : Fin cfg0.N) (n : Fin 2304) (l : Fin 128) :
    xqB (iblk0 V c 0 t) (iblk0 V c 1 t) (iblk0 V c 2 t) (iblk0 V c 3 t) (iblk0 V c 4 t) n l
      = xqA (V c main_v12) (V c main_v11) (V c main_v1) (V c main_v13) (V c main_v14) n (tokA t l) := by
  unfold xqB xqA
  simp only [lowB_blk]
  rw [colB_blk V c t l (tokA t l) rfl, blk0_0, blk0_1]

theorem pb_blk (t : Fin cfg0.N) (l : Fin 128) (n : ℕ) :
    PB (iblk0 V c 0 t (ix1 0)) (colB (iblk0 V c 2 t) (iblk0 V c 3 t) l) n = PB (V c main_v12 (ix1 0)) (colA (V c main_v1) (V c main_v13) (tokA t l)) n := by
  rw [blk0_0, colB_blk V c t l (tokA t l) rfl]
theorem sf_blk (t : Fin cfg0.N) (l : Fin 128) (n : ℕ) :
    SF (iblk0 V c 0 t (ix1 0)) (colB (iblk0 V c 2 t) (iblk0 V c 3 t) l) n = SF (V c main_v12 (ix1 0)) (colA (V c main_v1) (V c main_v13) (tokA t l)) n := by
  rw [blk0_0, colB_blk V c t l (tokA t l) rfl]

include hg h0 hr in
theorem outs0_5 (t : Fin cfg0.N) (r : Fin 1120) (l : Fin 128) :
    (outsAt0 V c t).1 (ix2 r l) = PB (V c main_v12 (ix1 0)) (colA (V c main_v1) (V c main_v13) (tokA t l)) r.val := by
  unfold outsAt0
  exact (out5_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t) ((congrFun (blk0_0 V c t) _).trans hg) h0 (colB_real V c hr t) (ix2 r l)).trans (pb_blk V c t l r.val)
theorem outs0_6 (t : Fin cfg0.N) (r : Fin 140) (l : Fin 128) :
    (outsAt0 V c t).2.1 (ix2 r l) = SF (V c main_v12 (ix1 0)) (colA (V c main_v1) (V c main_v13) (tokA t l)) r.val := by
  unfold outsAt0
  exact (out6_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t) (ix2 r l)).trans (sf_blk V c t l r.val)
include hg h0 hr in
theorem outs0_7 (t : Fin cfg0.N) (r : Fin 2304) (l : Fin 128) :
    (outsAt0 V c t).2.2 (ix2 r l) = xqA (V c main_v12) (V c main_v11) (V c main_v1) (V c main_v13) (V c main_v14) r (tokA t l) := by
  unfold outsAt0
  exact (out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (iblk0 V c 0 t) (iblk0 V c 1 t) (iblk0 V c 2 t) (iblk0 V c 3 t) (iblk0 V c 4 t) ((congrFun (blk0_0 V c t) _).trans hg) h0 (colB_real V c hr t) (ix2 r l)).trans (xqB_blk V c t r l)

/-- Where the output blocks sit in their arrays. -/
theorem emb0_5 (t : Fin cfg0.N) (r : Fin 1120) (l : Fin 128) : ((cfg0.win 5).blk t).view.emb (ix2 r l) = ix2 r (tokA t l) := by blk_ext [idx0 t]
theorem emb0_6 (t : Fin cfg0.N) (r : Fin 140) (l : Fin 128) : ((cfg0.win 6).blk t).view.emb (ix2 r l) = ix2 r (tokA t l) := by blk_ext [idx0 t]
theorem emb0_7 (t : Fin cfg0.N) (r : Fin 2304) (l : Fin 128) : ((cfg0.win 7).blk t).view.emb (ix2 r l) = ix2 r (tokA t l) := by blk_ext [idx0 t]

/-- The three arrays. -/
def A5 : IVec S1120x1024 8 := fun i => PB (V c main_v12 (ix1 0)) (colA (V c main_v1) (V c main_v13) (i 1)) (i 0).val
def A6 : FVec Ideal S140x1024 .fp8e4m3 := fun i => SF (V c main_v12 (ix1 0)) (colA (V c main_v1) (V c main_v13) (i 1)) (i 0).val
def A7 : FVec Ideal S2304x1024 .bf16 := fun i => xqA (V c main_v12) (V c main_v11) (V c main_v1) (V c main_v13) (V c main_v14) (i 0) (i 1)

theorem cov0_5 : (cfg0.win 5).Covers := by decide +kernel
theorem put0_5 (t : Fin cfg0.N) (r : Fin 1120) (l : Fin 128) (y : ((cfg0.win 5).xblock (cfg0.grid.coords t)).Idx) (hy : y = ix2 r l)
    (hX : (outsAt0 V c t).1 (ix2 r l) = A5 V c (ix2 r (tokA t l))) :
    _root_.cast (congrArg (Elt Ideal) ((cfg0.win 5).blk t).view.elt_eq.symm) ((dat0 V c).after 5 t ((cfg0.win 5).xinj (cfg0.grid.coords t) y))
      = A5 V c (((cfg0.win 5).blk t).view.emb y) := by
  subst hy
  blk_simp
  rw [after0_5]
  exact hX.trans (congrArg (A5 V c) (emb0_5 t r l).symm)
include hg h0 hr in
theorem val0_5 (t : Fin cfg0.N) (r : Fin 1120) (l : Fin 128) : (outsAt0 V c t).1 (ix2 r l) = A5 V c (ix2 r (tokA t l)) := outs0_5 V c hg h0 hr t r l
include hg h0 hr in
/-- The packed codes. -/
theorem final0_5 : (dat0 V c).arrAt 5 cfg0.N = A5 V c :=
  (dat0 V c).arrAt_eq_of_covers 5 (A5 V c) cov0_5 fun t _ y => put0_5 V c t (y 0) (y 1) y (eq_ix2 y) (val0_5 V c hg h0 hr t (y 0) (y 1))
theorem cov0_6 : (cfg0.win 6).Covers := by decide +kernel
theorem put0_6 (t : Fin cfg0.N) (r : Fin 140) (l : Fin 128) (y : ((cfg0.win 6).xblock (cfg0.grid.coords t)).Idx) (hy : y = ix2 r l)
    (hX : (outsAt0 V c t).2.1 (ix2 r l) = A6 V c (ix2 r (tokA t l))) :
    _root_.cast (congrArg (Elt Ideal) ((cfg0.win 6).blk t).view.elt_eq.symm) ((dat0 V c).after 6 t ((cfg0.win 6).xinj (cfg0.grid.coords t) y))
      = A6 V c (((cfg0.win 6).blk t).view.emb y) := by
  subst hy
  blk_simp
  rw [after0_6]
  exact hX.trans (congrArg (A6 V c) (emb0_6 t r l).symm)
theorem val0_6 (t : Fin cfg0.N) (r : Fin 140) (l : Fin 128) : (outsAt0 V c t).2.1 (ix2 r l) = A6 V c (ix2 r (tokA t l)) := outs0_6 V c t r l
/-- The block scales. -/
theorem final0_6 : (dat0 V c).arrAt 6 cfg0.N = A6 V c :=
  (dat0 V c).arrAt_eq_of_covers 6 (A6 V c) cov0_6 fun t _ y => put0_6 V c t (y 0) (y 1) y (eq_ix2 y) (val0_6 V c t (y 0) (y 1))
theorem cov0_7 : (cfg0.win 7).Covers := by decide +kernel
theorem put0_7 (t : Fin cfg0.N) (r : Fin 2304) (l : Fin 128) (y : ((cfg0.win 7).xblock (cfg0.grid.coords t)).Idx) (hy : y = ix2 r l)
    (hX : (outsAt0 V c t).2.2 (ix2 r l) = A7 V c (ix2 r (tokA t l))) :
    _root_.cast (congrArg (Elt Ideal) ((cfg0.win 7).blk t).view.elt_eq.symm) ((dat0 V c).after 7 t ((cfg0.win 7).xinj (cfg0.grid.coords t) y))
      = A7 V c (((cfg0.win 7).blk t).view.emb y) := by
  subst hy
  blk_simp
  rw [after0_7]
  exact hX.trans (congrArg (A7 V c) (emb0_7 t r l).symm)
include hg h0 hr in
theorem val0_7 (t : Fin cfg0.N) (r : Fin 2304) (l : Fin 128) : (outsAt0 V c t).2.2 (ix2 r l) = A7 V c (ix2 r (tokA t l)) := outs0_7 V c hg h0 hr t r l
include hg h0 hr in
/-- The rows the main call multiplies. -/
theorem final0_7 : (dat0 V c).arrAt 7 cfg0.N = A7 V c :=
  (dat0 V c).arrAt_eq_of_covers 7 (A7 V c) cov0_7 fun t _ y => put0_7 V c t (y 0) (y 1) y (eq_ix2 y) (val0_7 V c hg h0 hr t (y 0) (y 1))

end Cert.KernelIdeal.Own
-- ==== Proof.KernelIdeal.MainSteps.lean ====
/- The main call's body as 35 equal steps of 64 rows: what the run stores into the scratch buffer at step `k`, and the one
   piece of the result. -/
module

public import proofs.«01_k».proof.Proof.KernelIdeal.MainRun

@[expose] public section

set_option maxRecDepth 16384

noncomputable section

namespace Cert.KernelIdeal.Own

open Cert.KernelIdeal.Gen
open Idealize.ShloMosaic Idealize.ShloMosaic.TcCoe Idealize.ShloMosaic.Tactic

variable {F : FTy → Type} [FloatOps F]

/-- The main call's steps, the last first. -/
abbrev mstepList : List (Fin 35) :=
  [34, 33, 32, 31, 30, 29, 28, 27, 26, 25, 24, 23, 22, 21, 20, 19, 18, 17, 16, 15, 14, 13, 12, 11, 10, 9, 8, 7, 6, 5, 4, 3, 2, 1, 0]

theorem inbW (k : Fin 35) : ∀ a, (![32 * k.val, 0] : Fin 2 → ℕ) a + S32x256.size a ≤ S1120x256.size a := by
  intro a; fin_cases a <;> simp <;> omega
theorem inbH (k : Fin 35) : ∀ a, (![4 * k.val, 0] : Fin 2 → ℕ) a + S4x256.size a ≤ S140x256.size a := by
  intro a; fin_cases a <;> simp <;> omega
theorem inbT (k : Fin 35) : ∀ a, (![64 * k.val, 0] : Fin 2 → ℕ) a + S64x256.size a ≤ S2304x256.size a := by
  intro a; fin_cases a <;> simp <;> omega

/-- Step `k`'s rows of the packed weights and of their scales, as the body loads them. -/
abbrev ldW (arg2 : Memref sig .tc .vmem S1120x256 .i8) (harg2 : arg2.IsWhole) (x1 : Vec F S1120x256 .i8) (k : Fin 35) : Vec F S32x256 .i8 :=
  View.readAt (Elt F) arg2.view (Rect.unit (s := S1120x256) ![32 * k.val, 0] S32x256.size (inbW k)).toLoadRect (harg2.unread x1)
abbrev ldH (arg3 : Memref sig .tc .vmem S140x256 .fp8e4m3) (harg3 : arg3.IsWhole) (x2 : Vec F S140x256 .fp8e4m3) (k : Fin 35) : Vec F S4x256 .fp8e4m3 :=
  View.readAt (Elt F) arg3.view (Rect.unit (s := S140x256) ![4 * k.val, 0] S4x256.size (inbH k)).toLoadRect (harg3.unread x2)
/-- The other loads of the body. -/
abbrev ldU (arg4 : Memref sig .tc .vmem S32x256 .bf16) (harg4 : arg4.IsWhole) (x3 : Vec F S32x256 .bf16) : Vec F S32x256 .bf16 :=
  View.readAt (Elt F) arg4.view (Rect.unit (s := S32x256) ![0, 0] S32x256.size inb_S32x256_S32x256_0_0).toLoadRect (harg4.unread x3)
abbrev ldBias (arg5 : Memref sig .tc .vmem S1x256 .f32) (harg5 : arg5.IsWhole) (x4 : Vec F S1x256 .f32) : Vec F S1x256 .f32 :=
  View.readAt (Elt F) arg5.view (Rect.unit (s := S1x256) ![0, 0] S1x256.size inb_S1x256_S1x256_0_0).toLoadRect (harg5.unread x4)
abbrev ldXq (arg6 : Memref sig .tc .vmem S2304x1024 .bf16) (harg6 : arg6.IsWhole) (x5 : Vec F S2304x1024 .bf16) : Vec F S2304x1024 .bf16 :=
  View.readAt (Elt F) arg6.view (Rect.unit (s := S2304x1024) ![0, 0] S2304x1024.size inb_S2304x1024_S2304x1024_0_0).toLoadRect (harg6.unread x5)
abbrev ldC2 (arg1 : Memref sig .tc .smem S3 .f32) (harg1 : arg1.IsWhole) (x0 : Vec F S3 .f32) : Elt F .f32 :=
  View.readAt (Elt F) arg1.view (Rect.unit (s := S3) ![2] S1.size inb_S3_S1_2).toLoadRect (harg1.unread x0) (Shape.Idx.first (s := S1) (by decide))

variable (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec F S3 .f32) (x1 : Vec F S1120x256 .i8) (x2 : Vec F S140x256 .fp8e4m3) (x3 : Vec F S32x256 .bf16) (x4 : Vec F S1x256 .f32) (x5 : Vec F S2304x1024 .bf16)

/-- The pieces stored into the scratch buffer: the dequantised weights, and below them `l_up` twice. -/
abbrev wtPieces : List (View.Piece (Elt F) S2304x256 .bf16) :=
  ⟨Rect.unit (s := S2304x256) ![2272, 0] S32x256.size inb_S2304x256_S32x256_2272_0, k1_pay132 (ldU arg4 harg4 x3)⟩
    :: ⟨Rect.unit (s := S2304x256) ![2240, 0] S32x256.size inb_S2304x256_S32x256_2240_0, k1_pay131 (ldU arg4 harg4 x3)⟩
    :: mstepList.map fun k => ⟨Rect.unit (s := S2304x256) ![64 * k.val, 0] S64x256.size (inbT k), k1_pay4 (k1_pay2 (ldH arg3 harg3 x2 k)) (k1_pay3 (ldW arg2 harg2 x1 k))⟩
/-- The scratch buffer read back for the product. -/
abbrev ldT : Vec F S2304x256 .bf16 :=
  arg8.view.readCov (wtPieces arg2 harg2 arg3 harg3 arg4 harg4 x1 x2 x3) (Rect.unit (s := S2304x256) ![0, 0] S2304x256.size inb_S2304x256_S2304x256_0_0).toLoadRect

/-- The scratch buffer's pieces are the run's. -/
theorem pieces_wt : (kernelRun1_A c i arg1 harg1 arg2 harg2 arg3 harg3 arg4 harg4 arg5 harg5 arg6 harg6 arg7 harg7 arg8 harg8 x0 x1 x2 x3 x4 x5).2.1
    = wtPieces arg2 harg2 arg3 harg3 arg4 harg4 x1 x2 x3 := by
  sl_kernel_rfl

/-- The result's one piece. -/
theorem pieces_y : (kernelRun1_A c i arg1 harg1 arg2 harg2 arg3 harg3 arg4 harg4 arg5 harg5 arg6 harg6 arg7 harg7 arg8 harg8 x0 x1 x2 x3 x4 x5).1
    = [⟨Rect.unit (s := S256x1024) ![0, 0] S256x1024.size inb_S256x1024_S256x1024_0_0, k1_pay1 (k1_pay133 (ldBias arg5 harg5 x4)) (k1_pay134 (ldT arg2 harg2 arg3 harg3 arg4 harg4 arg8 x1 x2 x3) (ldXq arg6 harg6 x5) (ldC2 arg1 harg1 x0))⟩] := by
  sl_kernel_rfl

/-- The scratch buffer's pieces tile it. -/
theorem cover_wt (y : S2304x256.Idx) : ∃ pc ∈ wtPieces arg2 harg2 arg3 harg3 arg4 harg4 x1 x2 x3, y ∈ pc.1.set :=
  View.cover_of_tiledBy (wtPieces arg2 harg2 arg3 harg3 arg4 harg4 x1 x2 x3) ![32, 256] (by sl_kernel_rfl) y

end Cert.KernelIdeal.Own
-- ==== Proof.KernelIdeal.MainValues.lean ====
/- What a grid point of the main call leaves in its result block, element by element, as a function of its input blocks. -/
module

public import proofs.«01_k».proof.Proof.KernelIdeal.MainSteps
public import proofs.«01_k».proof.Proof.Words
public import Idealize.ShloMosaic.Lib.Pointwise
public import Idealize.ShloMosaic.Lib.WholeRead
public import Idealize.ShloMosaic.Lib.Writes

@[expose] public section

set_option maxRecDepth 16384

noncomputable section

namespace Cert.KernelIdeal.Own

open Cert.KernelIdeal.Gen Cert.Own
open Idealize.ShloMosaic Idealize.ShloMosaic.TcCoe Idealize.SL.Sem Idealize.ShloMosaic.Tactic

/-- A dequantised weight row of the transposed block, then the low-rank rows twice. -/
def wtB (x1 : IVec S1120x256 8) (x2 : FVec Ideal S140x256 .fp8e4m3) (x3 : FVec Ideal S32x256 .bf16) (n : Fin 2304) (l : Fin 256) : EReal :=
  if h : n.val < 2240 then dec ((x1 (ix2 ⟨n.val / 2, by omega⟩ l)).toNat / 16 ^ (n.val % 2) % 16) * x2 (ix2 ⟨n.val / 16, by omega⟩ l)
  else if h2 : n.val < 2272 then x3 (ix2 ⟨n.val - 2240, by omega⟩ l)
  else x3 (ix2 ⟨n.val - 2272, by omega⟩ l)

theorem wpay_at (h : FVec Ideal S4x256 .fp8e4m3) (w : IVec S32x256 8) (r : Fin 64) (l : Fin 256) :
    k1_pay4 (F := Ideal) (k1_pay2 h) (k1_pay3 w) (ix2 r l)
      = dec ((w (ix2 ⟨r.val / 2, by omega⟩ l)).toNat / 16 ^ (r.val % 2) % 16) * h (ix2 ⟨r.val / 16, by omega⟩ l) := by
  have e : k1_pay4 (F := Ideal) (k1_pay2 h) (k1_pay3 w) (ix2 r l)
      = decK (IntOp.andi (IntOp.shrui .vector (BitVec.setWidth 32 (w (ix2 ⟨r.val / 2, by omega⟩ l))) (IntOp.muli 4#32 (BitVec.ofNat 32 (r.val % 2)))) 15#32) * h (ix2 ⟨r.val / 16, by omega⟩ l) := by
    pointwise [k1_pay4, k1_pay2, k1_pay3, decK, twiceK]
  rw [e, nibByte _ _ (Nat.mod_lt _ (by norm_num)), decK_eq _ (Nat.mod_lt _ (by norm_num))]
theorem lpay131_at (h : FVec Ideal S32x256 .bf16) (r : Fin 32) (l : Fin 256) : k1_pay131 (F := Ideal) h (ix2 r l) = h (ix2 r l) := by
  pointwise [k1_pay131]
theorem lpay132_at (h : FVec Ideal S32x256 .bf16) (r : Fin 32) (l : Fin 256) : k1_pay132 (F := Ideal) h (ix2 r l) = h (ix2 r l) := by
  pointwise [k1_pay132]
theorem ypay_at (b : FVec Ideal S1x256 .f32) (wt : FVec Ideal S2304x256 .bf16) (xq : FVec Ideal S2304x1024 .bf16) (cc : EReal) (r : Fin 256) (l : Fin 1024) :
    k1_pay1 (F := Ideal) (k1_pay133 b) (k1_pay134 wt xq cc) (ix2 r l) = (∑ x : Fin 2304, wt (ix2 x r) * xq (ix2 x l)) * cc + b (ix2 0 r) := by
  pointwise [k1_pay1, k1_pay133, k1_pay134]

variable (c : Dev nD) (i : grid1.Coords) (arg1 : Memref sig .tc .smem S3 .f32) (harg1 : arg1.IsWhole) (arg2 : Memref sig .tc .vmem S1120x256 .i8) (harg2 : arg2.IsWhole) (arg3 : Memref sig .tc .vmem S140x256 .fp8e4m3) (harg3 : arg3.IsWhole) (arg4 : Memref sig .tc .vmem S32x256 .bf16) (harg4 : arg4.IsWhole) (arg5 : Memref sig .tc .vmem S1x256 .f32) (harg5 : arg5.IsWhole) (arg6 : Memref sig .tc .vmem S2304x1024 .bf16) (harg6 : arg6.IsWhole) (arg7 : Memref sig .tc .vmem S256x1024 .bf16) (harg7 : arg7.IsWhole) (arg8 : Memref sig .tc .vmem S2304x256 .bf16) (harg8 : arg8.IsWhole)
    (x0 : Vec Ideal S3 .f32) (x1 : Vec Ideal S1120x256 .i8) (x2 : Vec Ideal S140x256 .fp8e4m3) (x3 : Vec Ideal S32x256 .bf16) (x4 : Vec Ideal S1x256 .f32) (x5 : Vec Ideal S2304x1024 .bf16)

theorem ldW_at (k : Fin 35) (r : Fin 32) (l : Fin 256) : ldW arg2 harg2 x1 k (ix2 r l) = x1 (ix2 ⟨32 * k.val + r.val, by omega⟩ l) := by
  refine (harg2.readAt_unread x1 _ _).trans (congrArg x1 ?_)
  funext a; apply Fin.ext; fin_cases a
  · show 32 * k.val + 1 * r.val = _; rw [one_mul]; rfl
  · show 0 + 1 * l.val = _; rw [one_mul, zero_add]; rfl
theorem ldH_at (k : Fin 35) (r : Fin 4) (l : Fin 256) : ldH arg3 harg3 x2 k (ix2 r l) = x2 (ix2 ⟨4 * k.val + r.val, by omega⟩ l) := by
  refine (harg3.readAt_unread x2 _ _).trans (congrArg x2 ?_)
  funext a; apply Fin.ext; fin_cases a
  · show 4 * k.val + 1 * r.val = _; rw [one_mul]; rfl
  · show 0 + 1 * l.val = _; rw [one_mul, zero_add]; rfl
theorem ldU_eq : ldU arg4 harg4 x3 = x3 := by
  funext y
  refine (harg4.readAt_unread x3 _ _).trans (congrArg x3 ?_)
  funext a; apply Fin.ext; fin_cases a
  · show 0 + 1 * (y 0).val = _; rw [one_mul, zero_add]; rfl
  · show 0 + 1 * (y 1).val = _; rw [one_mul, zero_add]; rfl
theorem ldBias_eq : ldBias arg5 harg5 x4 = x4 := by
  funext y
  refine (harg5.readAt_unread x4 _ _).trans (congrArg x4 ?_)
  funext a; apply Fin.ext; fin_cases a
  · show 0 + 1 * (y 0).val = _; rw [one_mul, zero_add]; rfl
  · show 0 + 1 * (y 1).val = _; rw [one_mul, zero_add]; rfl
theorem ldXq_eq : ldXq arg6 harg6 x5 = x5 := by
  funext y
  refine (harg6.readAt_unread x5 _ _).trans (congrArg x5 ?_)
  funext a; apply Fin.ext; fin_cases a
  · show 0 + 1 * (y 0).val = _; rw [one_mul, zero_add]; rfl
  · show 0 + 1 * (y 1).val = _; rw [one_mul, zero_add]; rfl
theorem ldC2_eq : ldC2 arg1 harg1 x0 = x0 (ix1 2) := by
  refine (harg1.readAt_unread x0 _ _).trans (congrArg x0 ?_)
  funext a; apply Fin.ext; fin_cases a; rfl

/-- The scratch buffer read back is the dequantised weight block with the low-rank rows beneath. -/
theorem ldT_at (n : Fin 2304) (l : Fin 256) : ldT arg2 harg2 arg3 harg3 arg4 harg4 arg8 x1 x2 x3 (ix2 n l) = wtB x1 x2 x3 n l := by
  have h := View.read_writes_apply_of_pieces arg8.view arg8.view.junk (fun y => wtB x1 x2 x3 (y 0) (y 1)) (wtPieces arg2 harg2 arg3 harg3 arg4 harg4 x1 x2 x3) ?_
    ((Rect.unit (s := S2304x256) ![0, 0] S2304x256.size inb_S2304x256_S2304x256_0_0).toLoadRect.idx (ix2 n l))
    (cover_wt arg2 harg2 arg3 harg3 arg4 harg4 x1 x2 x3 _)
  · refine h.trans ?_
    show wtB x1 x2 x3 _ _ = _
    congr 1
    · apply Fin.ext; show 0 + 1 * n.val = _; rw [one_mul, zero_add]
    · apply Fin.ext; show 0 + 1 * l.val = _; rw [one_mul, zero_add]
  · intro p hp x
    rcases List.mem_cons.1 hp with rfl | hp
    · obtain ⟨r, l, rfl⟩ : ∃ (r : Fin 32) (l : Fin 256), x = ix2 r l := ⟨x 0, x 1, eq_ix2 x⟩
      refine (lpay132_at (ldU arg4 harg4 x3) r l).trans ?_
      rw [ldU_eq]
      have hl : (⟨0 + 1 * l.val, by omega⟩ : Fin 256) = l := by apply Fin.ext; show 0 + 1 * l.val = _; rw [one_mul, zero_add]
      show _ = wtB x1 x2 x3 ⟨2272 + 1 * r.val, by omega⟩ ⟨0 + 1 * l.val, by omega⟩
      unfold wtB
      rw [dif_neg (by show ¬ 2272 + 1 * r.val < 2240; omega), dif_neg (by show ¬ 2272 + 1 * r.val < 2272; omega), hl]
      congr 2; apply Fin.ext; show r.val = 2272 + 1 * r.val - 2272; omega
    rcases List.mem_cons.1 hp with rfl | hp
    · obtain ⟨r, l, rfl⟩ : ∃ (r : Fin 32) (l : Fin 256), x = ix2 r l := ⟨x 0, x 1, eq_ix2 x⟩
      refine (lpay131_at (ldU arg4 harg4 x3) r l).trans ?_
      rw [ldU_eq]
      have hl : (⟨0 + 1 * l.val, by omega⟩ : Fin 256) = l := by apply Fin.ext; show 0 + 1 * l.val = _; rw [one_mul, zero_add]
      show _ = wtB x1 x2 x3 ⟨2240 + 1 * r.val, by omega⟩ ⟨0 + 1 * l.val, by omega⟩
      unfold wtB
      rw [dif_neg (by show ¬ 2240 + 1 * r.val < 2240; omega), dif_pos (by show 2240 + 1 * r.val < 2272; omega), hl]
      congr 2; apply Fin.ext; show r.val = 2240 + 1 * r.val - 2240; omega
    · obtain ⟨k, -, rfl⟩ := List.mem_map.1 hp
      obtain ⟨r, l, rfl⟩ : ∃ (r : Fin 64) (l : Fin 256), x = ix2 r l := ⟨x 0, x 1, eq_ix2 x⟩
      refine (wpay_at _ _ r l).trans ?_
      have hl : (⟨0 + 1 * l.val, by omega⟩ : Fin 256) = l := by apply Fin.ext; show 0 + 1 * l.val = _; rw [one_mul, zero_add]
      show _ = wtB x1 x2 x3 ⟨64 * k.val + 1 * r.val, by omega⟩ ⟨0 + 1 * l.val, by omega⟩
      unfold wtB
      rw [dif_pos (by show 64 * k.val + 1 * r.val < 2240; omega), hl, ldW_at, ldH_at]
      have e1 : (⟨32 * k.val + r.val / 2, by omega⟩ : Fin 1120) = ⟨(64 * k.val + 1 * r.val) / 2, by omega⟩ := by apply Fin.ext; show 32 * k.val + r.val / 2 = (64 * k.val + 1 * r.val) / 2; omega
      have e2 : (⟨4 * k.val + r.val / 16, by omega⟩ : Fin 140) = ⟨(64 * k.val + 1 * r.val) / 16, by omega⟩ := by apply Fin.ext; show 4 * k.val + r.val / 16 = (64 * k.val + 1 * r.val) / 16; omega
      have e3 : r.val % 2 = (64 * k.val + 1 * r.val) % 2 := by omega
      show dec ((x1 (ix2 (⟨32 * k.val + r.val / 2, _⟩ : Fin 1120) l)).toNat / 16 ^ (r.val % 2) % 16) * x2 (ix2 (⟨4 * k.val + r.val / 16, _⟩ : Fin 140) l) = _
      rw [e1, e2, e3]

/-- The result block. -/
theorem out1_at (r : Fin 256) (l : Fin 1024) :
    out1_A_6 c i arg1 harg1 arg2 harg2 arg3 harg3 arg4 harg4 arg5 harg5 arg6 harg6 arg7 harg7 arg8 harg8 x0 x1 x2 x3 x4 x5 (ix2 r l)
      = (∑ n : Fin 2304, wtB x1 x2 x3 n r * (show EReal from x5 (ix2 n l))) * (show EReal from x0 (ix1 2)) + (show EReal from x4 (ix2 0 r)) := by
  refine View.read_writes_apply_of_pieces VO1_6 VO1_6.junk (fun y => (∑ n : Fin 2304, wtB x1 x2 x3 n (y 0) * (show EReal from x5 (ix2 n (y 1)))) * (show EReal from x0 (ix1 2)) + (show EReal from x4 (ix2 0 (y 0)))) _ ?_ (ix2 r l)
    (cover1_A_6 c i arg1 harg1 arg2 harg2 arg3 harg3 arg4 harg4 arg5 harg5 arg6 harg6 arg7 harg7 arg8 harg8 x0 x1 x2 x3 x4 x5 (ix2 r l))
  intro p hp x
  rw [pieces_y] at hp
  obtain rfl := List.mem_singleton.1 hp
  obtain ⟨r, l, rfl⟩ : ∃ (r : Fin 256) (l : Fin 1024), x = ix2 r l := ⟨x 0, x 1, eq_ix2 x⟩
  refine (ypay_at _ _ _ _ r l).trans ?_
  have hr : (⟨0 + 1 * r.val, by omega⟩ : Fin 256) = r := by apply Fin.ext; show 0 + 1 * r.val = _; rw [one_mul, zero_add]
  have hl : (⟨0 + 1 * l.val, by omega⟩ : Fin 1024) = l := by apply Fin.ext; show 0 + 1 * l.val = _; rw [one_mul, zero_add]
  show _ = (∑ n : Fin 2304, wtB x1 x2 x3 n ⟨0 + 1 * r.val, by omega⟩ * (show EReal from x5 (ix2 n ⟨0 + 1 * l.val, by omega⟩))) * (show EReal from x0 (ix1 2)) + (show EReal from x4 (ix2 0 ⟨0 + 1 * r.val, by omega⟩))
  rw [hr, hl, ldC2_eq, ldXq_eq, ldBias_eq]
  exact congrArg₂ (· + ·) (Ideal.mul_congr (Finset.sum_congr rfl fun x _ => Ideal.mul_congr (ldT_at arg2 harg2 arg3 harg3 arg4 harg4 arg8 x1 x2 x3 x r) rfl) rfl) rfl

end Cert.KernelIdeal.Own
-- ==== Proof.KernelIdeal.MainArrays.lean ====
/- What the main call leaves in its output array, element by element, as a function of its input arrays: the last block's rows past
   the array's end are not written, and a row of a block reads that row's column of the other blocks only. -/
module

public import proofs.«01_k».proof.Proof.KernelIdeal.MainValues
public import Idealize.ShloMosaic.Lib.Pipeline.ValueKit

@[expose] public section

set_option maxRecDepth 16384

noncomputable section

namespace Cert.KernelIdeal.Own

open Cert.KernelIdeal.Gen Cert.Own
open Idealize.ShloMosaic Idealize.ShloMosaic.TcCoe Idealize.SL.Sem Idealize.ShloMosaic.Tactic
open Idealize.ShloMosaic.Pipeline (Dat)

/-- A dequantised weight row of the transposed array, then the low-rank rows twice. -/
def wtA (W : IVec S1120x6720 8) (H : FVec Ideal S140x6720 .fp8e4m3) (U : FVec Ideal S32x6720 .bf16) (n : Fin 2304) (o : Fin 6720) : EReal :=
  if h : n.val < 2240 then dec ((W (ix2 ⟨n.val / 2, by omega⟩ o)).toNat / 16 ^ (n.val % 2) % 16) * H (ix2 ⟨n.val / 16, by omega⟩ o)
  else if h2 : n.val < 2272 then U (ix2 ⟨n.val - 2240, by omega⟩ o)
  else U (ix2 ⟨n.val - 2272, by omega⟩ o)

theorem idx1 : ∀ t : Fin cfg1.N, win1_0.index t = ![0] ∧ win1_1.index t = ![0, t.val] ∧ win1_2.index t = ![0, t.val] ∧ win1_3.index t = ![0, t.val] ∧ win1_4.index t = ![0, t.val]
    ∧ win1_5.index t = ![0, 0] ∧ win1_6.index t = ![t.val, 0] :=
  (by decide +kernel : ∀ t : Fin grid1.N, _)
theorem lt1 : ∀ t : Fin cfg1.N, t.val < 27 := (by decide +kernel : ∀ t : Fin grid1.N, _)
theorem xs1_1 : ∀ t : Fin cfg1.N, win1_1.xsize (grid1.coords t) 0 = 1120 ∧ win1_1.xsize (grid1.coords t) 1 = min 256 (6720 - t.val * 256) :=
  (by decide +kernel : ∀ t : Fin grid1.N, _)
theorem xs1_2 : ∀ t : Fin cfg1.N, win1_2.xsize (grid1.coords t) 0 = 140 ∧ win1_2.xsize (grid1.coords t) 1 = min 256 (6720 - t.val * 256) :=
  (by decide +kernel : ∀ t : Fin grid1.N, _)
theorem xs1_3 : ∀ t : Fin cfg1.N, win1_3.xsize (grid1.coords t) 0 = 32 ∧ win1_3.xsize (grid1.coords t) 1 = min 256 (6720 - t.val * 256) :=
  (by decide +kernel : ∀ t : Fin grid1.N, _)
theorem xs1_4 : ∀ t : Fin cfg1.N, win1_4.xsize (grid1.coords t) 0 = 1 ∧ win1_4.xsize (grid1.coords t) 1 = min 256 (6720 - t.val * 256) :=
  (by decide +kernel : ∀ t : Fin grid1.N, _)
theorem xs1_6 : ∀ t : Fin cfg1.N, win1_6.xsize (grid1.coords t) 0 = min 256 (6720 - t.val * 256) ∧ win1_6.xsize (grid1.coords t) 1 = 1024 :=
  (by decide +kernel : ∀ t : Fin grid1.N, _)

variable (V : (c : Dev nD) → (b : Ref sig .tc) → Buf (Elt Ideal) ((c : Thread nD τ).loc b)) (c : Dev nD)

theorem blk1_0 (t : Fin cfg1.N) : iblk1 V c 0 t = V c main_v11 := by blk_ext! [iblk1, idx1 t]
theorem blk1_5 (t : Fin cfg1.N) : iblk1 V c 5 t = V c main_v15_2 := by blk_ext! [iblk1, idx1 t]

theorem fld1_1_at (t : Fin cfg1.N) (d : S1120x256.Idx → Elt Ideal .i8) (k : Fin 1120) (l : Fin 256) (h : t.val * 256 + l.val < 6720) :
    fld1 V c t d (ix2 k l) = V c main_v16 (ix2 k ⟨t.val * 256 + l.val, h⟩) := by
  have hm : win1_1.moved (grid1.coords t) (ix2 k l) = true := by
    rw [win1_1.moved_iff]
    intro a; fin_cases a
    · show k.val < win1_1.xsize (grid1.coords t) 0; rw [(xs1_1 t).1]; exact k.isLt
    · show l.val < win1_1.xsize (grid1.coords t) 1; rw [(xs1_1 t).2]; omega
  have e : fld1 V c t d (ix2 k l) = iblk1 V c 1 t (fun a => ⟨((ix2 k l : S1120x256.Idx) a).val, (win1_1.moved_iff (grid1.coords t) (ix2 k l)).mp hm a⟩) := by
    unfold fld1 Pipeline.Window.fill
    rw [dif_pos hm]
  rw [e]
  blk_ext [iblk1, idx1 t]
theorem fld1_2_at (t : Fin cfg1.N) (d : S140x256.Idx → Elt Ideal .fp8e4m3) (k : Fin 140) (l : Fin 256) (h : t.val * 256 + l.val < 6720) :
    fld2 V c t d (ix2 k l) = V c main_v17 (ix2 k ⟨t.val * 256 + l.val, h⟩) := by
  have hm : win1_2.moved (grid1.coords t) (ix2 k l) = true := by
    rw [win1_2.moved_iff]
    intro a; fin_cases a
    · show k.val < win1_2.xsize (grid1.coords t) 0; rw [(xs1_2 t).1]; exact k.isLt
    · show l.val < win1_2.xsize (grid1.coords t) 1; rw [(xs1_2 t).2]; omega
  have e : fld2 V c t d (ix2 k l) = iblk1 V c 2 t (fun a => ⟨((ix2 k l : S140x256.Idx) a).val, (win1_2.moved_iff (grid1.coords t) (ix2 k l)).mp hm a⟩) := by
    unfold fld2 Pipeline.Window.fill
    rw [dif_pos hm]
  rw [e]
  blk_ext [iblk1, idx1 t]
theorem fld1_3_at (t : Fin cfg1.N) (d : S32x256.Idx → Elt Ideal .bf16) (k : Fin 32) (l : Fin 256) (h : t.val * 256 + l.val < 6720) :
    fld3 V c t d (ix2 k l) = V c main_arg7 (ix2 k ⟨t.val * 256 + l.val, h⟩) := by
  have hm : win1_3.moved (grid1.coords t) (ix2 k l) = true := by
    rw [win1_3.moved_iff]
    intro a; fin_cases a
    · show k.val < win1_3.xsize (grid1.coords t) 0; rw [(xs1_3 t).1]; exact k.isLt
    · show l.val < win1_3.xsize (grid1.coords t) 1; rw [(xs1_3 t).2]; omega
  have e : fld3 V c t d (ix2 k l) = iblk1 V c 3 t (fun a => ⟨((ix2 k l : S32x256.Idx) a).val, (win1_3.moved_iff (grid1.coords t) (ix2 k l)).mp hm a⟩) := by
    unfold fld3 Pipeline.Window.fill
    rw [dif_pos hm]
  rw [e]
  blk_ext [iblk1, idx1 t]
theorem fld1_4_at (t : Fin cfg1.N) (d : S1x256.Idx → Elt Ideal .f32) (k : Fin 1) (l : Fin 256) (h : t.val * 256 + l.val < 6720) :
    fld4 V c t d (ix2 k l) = V c main_v18 (ix2 k ⟨t.val * 256 + l.val, h⟩) := by
  have hm : win1_4.moved (grid1.coords t) (ix2 k l) = true := by
    rw [win1_4.moved_iff]
    intro a; fin_cases a
    · show k.val < win1_4.xsize (grid1.coords t) 0; rw [(xs1_4 t).1]; exact k.isLt
    · show l.val < win1_4.xsize (grid1.coords t) 1; rw [(xs1_4 t).2]; omega
  have e : fld4 V c t d (ix2 k l) = iblk1 V c 4 t (fun a => ⟨((ix2 k l : S1x256.Idx) a).val, (win1_4.moved_iff (grid1.coords t) (ix2 k l)).mp hm a⟩) := by
    unfold fld4 Pipeline.Window.fill
    rw [dif_pos hm]
  rw [e]
  blk_ext [iblk1, idx1 t]

theorem wtB_blk (t : Fin cfg1.N) (d1 d2 d3) (n : Fin 2304) (l : Fin 256) (h : t.val * 256 + l.val < 6720) :
    wtB (fld1 V c t d1) (fld2 V c t d2) (fld3 V c t d3) n l = wtA (V c main_v16) (V c main_v17) (V c main_arg7) n ⟨t.val * 256 + l.val, h⟩ := by
  unfold wtB wtA
  split
  · rw [fld1_1_at V c t d1 _ l h]
    exact Ideal.mul_congr rfl (fld1_2_at V c t d2 _ l h)
  · split
    · exact fld1_3_at V c t d3 _ l h
    · exact fld1_3_at V c t d3 _ l h

/-- The result array. -/
def A19 : FVec Ideal S6720x1024 .bf16 := fun i =>
  (∑ n : Fin 2304, wtA (V c main_v16) (V c main_v17) (V c main_arg7) n (i 0) * (show FVec Ideal S2304x1024 .bf16 from V c main_v15_2) (ix2 n (i 1)))
    * (show FVec Ideal S3 .f32 from V c main_v11) (ix1 2) + (show FVec Ideal S1x6720 .f32 from V c main_v18) (ix2 0 (i 0))

theorem val1_6 (t : Fin cfg1.N) (X : Vec Ideal S256x1024 .bf16) (hX : RelOut V c t X) (r : Fin 256) (l : Fin 1024) (h : t.val * 256 + r.val < 6720) :
    X (ix2 r l) = A19 V c (ix2 ⟨t.val * 256 + r.val, h⟩ l) := by
  obtain ⟨d1, d2, d3, d4, rfl⟩ := hX
  unfold outAt1
  refine (out1_at ..).trans ?_
  show _ = (∑ n : Fin 2304, wtA (V c main_v16) (V c main_v17) (V c main_arg7) n ⟨t.val * 256 + r.val, h⟩ * (show FVec Ideal S2304x1024 .bf16 from V c main_v15_2) (ix2 n l))
    * (show FVec Ideal S3 .f32 from V c main_v11) (ix1 2) + (show FVec Ideal S1x6720 .f32 from V c main_v18) (ix2 0 ⟨t.val * 256 + r.val, h⟩)
  refine congrArg₂ (· + ·) (congrArg₂ (· * ·) (Finset.sum_congr rfl fun n _ => congrArg₂ (· * ·) (wtB_blk V c t d1 d2 d3 n r h) ?_) ?_) ?_
  · exact congrFun (blk1_5 V c t) _
  · exact congrFun (blk1_0 V c t) _
  · exact fld1_4_at V c t d4 0 r h

theorem cov1_6 : (cfg1.win 6).Covers := by decide +kernel

variable (X : Fin cfg1.N → Vec Ideal S256x1024 .bf16)

theorem put1_6 (t : Fin cfg1.N) (y : ((cfg1.win 6).xblock (cfg1.grid.coords t)).Idx) (r : Fin 256) (l : Fin 1024) (h : t.val * 256 + r.val < 6720)
    (h0 : (y 0).val = r.val) (h1 : (y 1).val = l.val)
    (hX : X t (ix2 r l) = A19 V c (ix2 ⟨t.val * 256 + r.val, h⟩ l)) :
    _root_.cast (congrArg (Elt Ideal) ((cfg1.win 6).blk t).view.elt_eq.symm) ((dat1 V X c).after 6 t ((cfg1.win 6).xinj (cfg1.grid.coords t) y))
      = A19 V c (((cfg1.win 6).blk t).view.emb y) := by
  have e1 : (cfg1.win 6).xinj (cfg1.grid.coords t) y = ix2 r l := by
    funext a; apply Fin.ext; fin_cases a
    · exact h0
    · exact h1
  have e2 : ((cfg1.win 6).blk t).view.emb y = ix2 ⟨t.val * 256 + r.val, h⟩ l := by
    blk_ext [idx1 t]
  rw [e1, after1_6, e2]
  exact hX

/-- The result. -/
theorem final1_6 (hX : ∀ t, RelOut V c t (X t)) : (dat1 V X c).arrAt 6 cfg1.N = A19 V c := by
  refine (dat1 V X c).arrAt_eq_of_covers 6 (A19 V c) cov1_6 fun t _ y => ?_
  have b0 : (y 0).val < win1_6.xsize (grid1.coords t) 0 := (y 0).isLt
  have b1 : (y 1).val < win1_6.xsize (grid1.coords t) 1 := (y 1).isLt
  rw [(xs1_6 t).1] at b0
  rw [(xs1_6 t).2] at b1
  have h : t.val * 256 + (y 0).val < 6720 := by omega
  exact put1_6 V c X t y ⟨(y 0).val, by omega⟩ ⟨(y 1).val, b1⟩ h rfl rfl (val1_6 V c t (X t) (hX t) ⟨(y 0).val, by omega⟩ ⟨(y 1).val, b1⟩ h)

end Cert.KernelIdeal.Own
-- ==== Proof.KernelIdeal.HostValues.lean ====
/- The arrays the two calls find, and the three results, read through the host operations around them. -/
module

public import proofs.«01_k».proof.Proof.KernelIdeal.Run
public import proofs.«01_k».proof.Proof.KernelIdeal.QuantArrays
public import proofs.«01_k».proof.Proof.KernelIdeal.MainArrays
public import Idealize.ShloMosaic.Lib.Claim

@[expose] public section

set_option maxRecDepth 16384

noncomputable section

namespace Cert.KernelIdeal.Own

open Cert.KernelIdeal.Gen Cert.Own
open Idealize.ShloMosaic Idealize.ShloMosaic.TcCoe Idealize.SL.Sem Idealize.ShloMosaic.Tactic

/-- The scalar kept away from zero, its inverse's divisor, and the flag. -/
def safeOf (p : EReal) : EReal := if p = 0 then 1 else p
def flagOf (p : EReal) : EReal := if p = 0 then 0 else 1

/-! ## One stretch at a time, from any contents -/
section
variable (σ : Valuation τ sig (Elt Ideal))

theorem cat3_0 (a b c : FVec Ideal S1 .f32) : concatenate S3 0 [⟨S1, a⟩, ⟨S1, b⟩, ⟨S1, c⟩] concatenates_S1_S1_S1_S3_d0 (ix1 0) = a (ix1 0) := by pointwise
theorem cat3_1 (a b c : FVec Ideal S1 .f32) : concatenate S3 0 [⟨S1, a⟩, ⟨S1, b⟩, ⟨S1, c⟩] concatenates_S1_S1_S1_S3_d0 (ix1 1) = b (ix1 0) := by pointwise
theorem cat3_2 (a b c : FVec Ideal S1 .f32) : concatenate S3 0 [⟨S1, a⟩, ⟨S1, b⟩, ⟨S1, c⟩] concatenates_S1_S1_S1_S3_d0 (ix1 2) = c (ix1 0) := by pointwise
theorem bc1 (a : FVec Ideal S_ .f32) : (broadcastInDim S1 ![] bcast_S_S1 a : FVec Ideal S1 .f32) (ix1 0) = a ix0 := by pointwise
theorem st4_v11 : StableHlo.after hostOps0_4 σ (Proc.devRef .tc main_v11) (ix1 0) = σ (Proc.devRef .tc main_v5) ix0
    ∧ StableHlo.after hostOps0_4 σ (Proc.devRef .tc main_v11) (ix1 1) = σ (Proc.devRef .tc main_v6) ix0
    ∧ StableHlo.after hostOps0_4 σ (Proc.devRef .tc main_v11) (ix1 2) = σ (Proc.devRef .tc main_v4) ix0 := by
  unfold hostOps0_4
  simp only [StableHlo.after_cons, StableHlo.after_nil]
  rw [StableHlo.unary_result_ne (h := by decide), StableHlo.reshape_result_ne (h := by decide), StableHlo.reshape_result_ne (h := by decide), StableHlo.nary_result]
  refine ⟨(cat3_0 _ _ _).trans ?_, (cat3_1 _ _ _).trans ?_, (cat3_2 _ _ _).trans ?_⟩
  · show (StableHlo.unary main_v4 main_v10 _ _ _).result _ (Proc.devRef .tc main_v8) (ix1 0) = _
    rw [StableHlo.unary_result_ne (h := by decide), StableHlo.unary_result_ne (h := by decide), StableHlo.unary_result, StableHlo.unary_result_ne (h := by decide)]
    exact bc1 _
  · show (StableHlo.unary main_v4 main_v10 _ _ _).result _ (Proc.devRef .tc main_v9) (ix1 0) = _
    rw [StableHlo.unary_result_ne (h := by decide), StableHlo.unary_result, StableHlo.unary_result_ne (h := by decide), StableHlo.unary_result]
    exact bc1 _
  · show (StableHlo.unary main_v4 main_v10 _ _ _).result _ (Proc.devRef .tc main_v10) (ix1 0) = _
    rw [StableHlo.unary_result, StableHlo.unary_result_ne (h := by decide), StableHlo.unary_result_ne (h := by decide), StableHlo.unary_result_ne (h := by decide)]
    exact bc1 _
theorem st3_v6 : StableHlo.after hostOps0_3 σ (Proc.devRef .tc main_v6) = select (σ (Proc.devRef .tc main_v3)) (σ (Proc.devRef .tc main_cst_2)) (σ (Proc.devRef .tc main_cst_3)) := by
  entry_read
  rfl
theorem st2_v5 : StableHlo.after hostOps0_2 σ (Proc.devRef .tc main_v5) = Host.divf (F := Ideal) (constant S_ .f32 0x3F800000#32) (σ (Proc.devRef .tc main_v4)) := by
  entry_read
  rfl
theorem st1_v4 : StableHlo.after hostOps0_1 σ (Proc.devRef .tc main_v4) = select (σ (Proc.devRef .tc main_v3)) (σ (Proc.devRef .tc main_cst_0)) (σ (Proc.devRef .tc main_v2)) := by
  entry_read
  rfl
end

variable (m : (ℓ : Loc nD τ sig) → Buf (Elt Ideal) ℓ) (ρ : Dev nD → PrngReg) (c : Dev nD)

/-- The product of the two global scales. -/
def prodOf : EReal := (show FVec Ideal S_ .f32 from m ((c : Thread nD τ).loc main_arg2)) ix0 * (show FVec Ideal S_ .f32 from m ((c : Thread nD τ).loc main_arg5)) ix0

theorem W1_v2 : W1 m ρ c (Proc.devRef .tc main_v2) ix0 = prodOf m c := by
  show StableHlo.after hostOps0 (W0 m ρ c) (Proc.devRef .tc main_v2) ix0 = _
  entry_read
  rfl
theorem W1_v3 : W1 m ρ c (Proc.devRef .tc main_v3) ix0 = BitVec.ofBool (decide (prodOf m c = 0)) := by
  show StableHlo.after hostOps0 (W0 m ρ c) (Proc.devRef .tc main_v3) ix0 = _
  entry_read
  pointwise
  rfl
theorem W1_one : W1 m ρ c (Proc.devRef .tc main_cst_0) ix0 = (1 : EReal) := by
  show StableHlo.after hostOps0 (W0 m ρ c) (Proc.devRef .tc main_cst_0) ix0 = _
  entry_read
  pointwise

theorem sel_bool (b : Prop) [Decidable b] (x y : FVec Ideal S_ .f32) (k : IVec S_ 1) (hk : k ix0 = BitVec.ofBool (decide b)) :
    select k x y ix0 = if b then x ix0 else y ix0 := by
  show Scalar.select (k ix0) (x ix0) (y ix0) = _
  rw [hk]; by_cases h : b <;> simp [h, Scalar.select]

theorem W2_v4 : W2 m ρ c (Proc.devRef .tc main_v4) ix0 = safeOf (prodOf m c) := by
  refine (congrFun (st1_v4 (W1 m ρ c)) ix0).trans ?_
  refine (sel_bool _ _ _ _ (W1_v3 m ρ c)).trans ?_
  rw [W1_one, W1_v2]; rfl
theorem W3_v5 : W3 m ρ c (Proc.devRef .tc main_v5) ix0 = Ideal.div 1 (safeOf (prodOf m c)) := by
  refine (congrFun (st2_v5 (W2 m ρ c)) ix0).trans ?_
  rw [← W2_v4 m ρ c]
  pointwise
theorem W4_v6 : W4 m ρ c (Proc.devRef .tc main_v6) ix0 = flagOf (prodOf m c) := by
  refine (congrFun (st3_v6 (W3 m ρ c)) ix0).trans ?_
  refine (sel_bool (prodOf m c = 0) _ _ _ ?_).trans ?_
  · rw [W3_of _ _ _ _ (by decide +kernel), W2_of _ _ _ _ (by decide +kernel)]; exact W1_v3 m ρ c
  · have e1 : W3 m ρ c (Proc.devRef .tc main_cst_2) ix0 = (0 : EReal) := by
      show StableHlo.after hostOps0_2 (W2 m ρ c) (Proc.devRef .tc main_cst_2) ix0 = _
      entry_read
      pointwise
    have e2 : W3 m ρ c (Proc.devRef .tc main_cst_3) ix0 = (1 : EReal) := by
      show StableHlo.after hostOps0_2 (W2 m ρ c) (Proc.devRef .tc main_cst_3) ix0 = _
      entry_read
      pointwise
    rw [e1, e2]; rfl

/-! ## What the quantising call finds -/
theorem V5_v11 : V5 m ρ c main_v11 (ix1 0) = Ideal.div 1 (safeOf (prodOf m c)) ∧ V5 m ρ c main_v11 (ix1 1) = flagOf (prodOf m c) ∧ V5 m ρ c main_v11 (ix1 2) = safeOf (prodOf m c) := by
  obtain ⟨h0, h1, h2⟩ := st4_v11 (W4 m ρ c)
  refine ⟨h0.trans ?_, h1.trans (W4_v6 m ρ c), h2.trans ?_⟩
  · rw [W4_of _ _ _ _ (by decide +kernel)]; exact W3_v5 m ρ c
  · rw [W4_of _ _ _ _ (by decide +kernel), W3_of _ _ _ _ (by decide +kernel)]; exact W2_v4 m ρ c
theorem V5_v1 (n : Fin 2240) (l : Fin 1024) : V5 m ρ c main_v1 (ix2 n l) = m ((c : Thread nD τ).loc main_arg0) (ix3 0 l n) := by
  show W5 m ρ c (Proc.devRef .tc main_v1) (ix2 n l) = _
  rw [W5_of _ _ _ _ (by decide +kernel), W4_of _ _ _ _ (by decide +kernel), W3_of _ _ _ _ (by decide +kernel), W2_of _ _ _ _ (by decide +kernel)]
  show StableHlo.after hostOps0 (W0 m ρ c) (Proc.devRef .tc main_v1) (ix2 n l) = _
  entry_read
  pointwise
theorem V5_v12 : V5 m ρ c main_v12 (ix1 0) = m ((c : Thread nD τ).loc main_arg2) ix0 := by
  rw [← W4_args m ρ c main_arg2 (by decide)]
  show StableHlo.after hostOps0_4 (W4 m ρ c) (Proc.devRef .tc main_v12) (ix1 0) = _
  generalize W4 m ρ c = σ
  entry_read
  pointwise
theorem V5_v13 (n : Fin 2240) : V5 m ρ c main_v13 (ix2 0 n) = m ((c : Thread nD τ).loc main_arg1) (ix1 n) := by
  rw [← W4_args m ρ c main_arg1 (by decide)]
  show StableHlo.after hostOps0_4 (W4 m ρ c) (Proc.devRef .tc main_v13) (ix2 0 n) = _
  generalize W4 m ρ c = σ
  entry_read
  pointwise
theorem V5_v14 (r : Fin 32) (n : Fin 2240) : V5 m ρ c main_v14 (ix2 r n) = m ((c : Thread nD τ).loc main_arg6) (ix2 n r) := by
  rw [← W4_args m ρ c main_arg6 (by decide)]
  show StableHlo.after hostOps0_4 (W4 m ρ c) (Proc.devRef .tc main_v14) (ix2 r n) = _
  generalize W4 m ρ c = σ
  entry_read
  pointwise

/-! ## What the main call finds -/
theorem V7_v16 (k : Fin 1120) (o : Fin 6720) : V7 m ρ c main_v16 (ix2 k o) = m ((c : Thread nD τ).loc main_arg3) (ix2 o k) := by
  rw [← W6_args m ρ c main_arg3 (by decide)]
  show StableHlo.after hostOps1 (W6 m ρ c) (Proc.devRef .tc main_v16) (ix2 k o) = _
  generalize W6 m ρ c = σ
  entry_read
  pointwise
theorem V7_v17 (k : Fin 140) (o : Fin 6720) : V7 m ρ c main_v17 (ix2 k o) = m ((c : Thread nD τ).loc main_arg4) (ix2 o k) := by
  rw [← W6_args m ρ c main_arg4 (by decide)]
  show StableHlo.after hostOps1 (W6 m ρ c) (Proc.devRef .tc main_v17) (ix2 k o) = _
  generalize W6 m ρ c = σ
  entry_read
  pointwise
theorem V7_v18 (o : Fin 6720) : V7 m ρ c main_v18 (ix2 0 o) = m ((c : Thread nD τ).loc main_arg8) (ix1 o) := by
  rw [← W6_args m ρ c main_arg8 (by decide)]
  show StableHlo.after hostOps1 (W6 m ρ c) (Proc.devRef .tc main_v18) (ix2 0 o) = _
  generalize W6 m ρ c = σ
  entry_read
  pointwise
theorem V7_arg7 : V7 m ρ c main_arg7 = m ((c : Thread nD τ).loc main_arg7) := W7_args m ρ c main_arg7 (by decide)
theorem V7_v11 : V7 m ρ c main_v11 = V5 m ρ c main_v11 := by
  show W7 m ρ c (Proc.devRef .tc main_v11) = _
  rw [W7_of _ _ _ _ (by decide +kernel), W6_of _ _ _ _ (by decide +kernel)]
theorem V7_v15_2 : V7 m ρ c main_v15_2 = (dat0 (V5 m ρ) c).arrAt 7 cfg0.N := by
  show W7 m ρ c (Proc.devRef .tc main_v15_2) = _
  rw [W7_of _ _ _ _ (by decide +kernel)]
  exact W6_arr m ρ c 7

/-! ## The results -/
variable (X : Fin cfg1.N → Vec Ideal S256x1024 .bf16)

theorem W8_v19 : W8 m ρ X c (Proc.devRef .tc main_v19) = (dat1 (V7 m ρ) X c).arrAt 6 cfg1.N := W8_arr m ρ X c 6
theorem W8_v15_0 : W8 m ρ X c (Proc.devRef .tc main_v15_0) = (dat0 (V5 m ρ) c).arrAt 5 cfg0.N := by
  rw [W8_of _ _ _ _ _ (by decide +kernel), W7_of _ _ _ _ (by decide +kernel)]
  exact W6_arr m ρ c 5
theorem W8_v15_1 : W8 m ρ X c (Proc.devRef .tc main_v15_1) = (dat0 (V5 m ρ) c).arrAt 6 cfg0.N := by
  rw [W8_of _ _ _ _ _ (by decide +kernel), W7_of _ _ _ _ (by decide +kernel)]
  exact W6_arr m ρ c 6

theorem W9_v21 (l : Fin 1024) (o : Fin 6720) : W9 m ρ X c (Proc.devRef .tc main_v21) (ix3 0 l o) = W8 m ρ X c (Proc.devRef .tc main_v19) (ix2 o l) := by
  show StableHlo.after hostOps2 (W8 m ρ X c) (Proc.devRef .tc main_v21) (ix3 0 l o) = _
  generalize W8 m ρ X c = σ
  entry_read
  pointwise
theorem W9_v23 (l : Fin 1024) (o : Fin 1120) : W9 m ρ X c (Proc.devRef .tc main_v23) (ix3 0 l o) = W8 m ρ X c (Proc.devRef .tc main_v15_0) (ix2 o l) := by
  show StableHlo.after hostOps2 (W8 m ρ X c) (Proc.devRef .tc main_v23) (ix3 0 l o) = _
  generalize W8 m ρ X c = σ
  entry_read
  pointwise
theorem W9_v25 (l : Fin 1024) (o : Fin 140) : W9 m ρ X c (Proc.devRef .tc main_v25) (ix3 0 l o) = W8 m ρ X c (Proc.devRef .tc main_v15_1) (ix2 o l) := by
  show StableHlo.after hostOps2 (W8 m ρ X c) (Proc.devRef .tc main_v25) (ix3 0 l o) = _
  generalize W8 m ρ X c = σ
  entry_read
  pointwise

end Cert.KernelIdeal.Own
-- ==== Proof.Algebra.lean ====
/- One element of the result: the kernel's single contraction against the reference's two, over the extended reals. -/
module

public import proofs.«01_k».proof.Proof.Spec

@[expose] public section

noncomputable section

namespace Cert.Own

open Idealize.ShloMosaic

def safeP (p : EReal) : EReal := if p = 0 then 1 else p
def flagP (p : EReal) : EReal := if p = 0 then 0 else 1

/-- A sum over the concatenated rows is the sum over the three pieces. -/
theorem sum2304 (f : Fin 2304 → EReal) :
    ∑ n : Fin 2304, f n = (∑ n : Fin 2240, f ⟨n.val, by omega⟩) + (∑ k : Fin 32, f ⟨2240 + k.val, by omega⟩) + ∑ k : Fin 32, f ⟨2272 + k.val, by omega⟩ := by
  have e1 := Fin.sum_univ_add (M := EReal) (a := 2272) (b := 32) f
  have e2 := Fin.sum_univ_add (M := EReal) (a := 2240) (b := 32) (fun i => f (Fin.castAdd 32 i))
  exact e1.trans (congrArg (· + _) e2)

theorem coe_sum' {n : ℕ} (f : Fin n → ℝ) : ∑ k : Fin n, ((f k : ℝ) : EReal) = ((∑ k : Fin n, f k : ℝ) : EReal) :=
  (map_sum (⟨⟨Real.toEReal, EReal.coe_zero⟩, EReal.coe_add⟩ : ℝ →+ EReal) f Finset.univ).symm

/-- A real is added to anything before or after a multiplication by a nonzero real. -/
theorem add_mul_real (A : EReal) (s p : ℝ) (hp : p ≠ 0) : (A + (s : EReal)) * (p : EReal) = A * (p : EReal) + ((s * p : ℝ) : EReal) := by
  induction A with
  | bot =>
    rw [EReal.bot_add]
    rcases lt_or_gt_of_ne hp with h | h
    · rw [EReal.bot_mul_coe_of_neg h, EReal.top_add_coe]
    · rw [EReal.bot_mul_coe_of_pos h, EReal.bot_add]
  | top =>
    rw [EReal.top_add_coe]
    rcases lt_or_gt_of_ne hp with h | h
    · rw [EReal.top_mul_coe_of_neg h, EReal.bot_add]
    · rw [EReal.top_mul_coe_of_pos h, EReal.top_add_coe]
  | coe a =>
    rw [← EReal.coe_add, ← EReal.coe_mul, ← EReal.coe_mul, ← EReal.coe_add]
    congr 1; ring

theorem elem (p : ℝ) (d s w : Fin 2240 → EReal) (row : ℕ → EReal) (ld : Fin 2240 → Fin 32 → EReal) (lu : Fin 32 → EReal) (b : EReal)
    (hrow : ∀ n, ∃ x : ℝ, row n = (x : EReal)) (hld : ∀ n k, ∃ x : ℝ, ld n k = (x : EReal)) (hlu : ∀ k, ∃ x : ℝ, lu k = (x : EReal)) :
    ((∑ n : Fin 2240, w n * (d n * (s n * flagP p)))
        + (∑ k : Fin 32, lu k * ((∑ n : Fin 2240, ld n k * row n.val) * Ideal.div 1 (safeP p)))
        + ∑ k : Fin 32, lu k * ((∑ n : Fin 2240, ld n k * row n.val) * Ideal.div 1 (safeP p) - (∑ n : Fin 2240, ld n k * row n.val) * Ideal.div 1 (safeP p)))
        * safeP p + b
      = (∑ n : Fin 2240, d n * s n * w n) * (p : EReal) + (∑ k : Fin 32, (∑ n : Fin 2240, row n.val * ld n k) * lu k) + b := by
  choose row' hrow using hrow
  choose ld' hld using hld
  choose lu' hlu using hlu
  simp only [hrow, hld, hlu, ← EReal.coe_mul, coe_sum']
  congr 1
  by_cases hp : (p : EReal) = 0
  · have hp' : p = 0 := by exact_mod_cast hp
    unfold safeP flagP
    simp only [if_pos hp]
    have d1 : ∀ x : ℝ, (x : EReal) * Ideal.div 1 1 = (x : EReal) := by
      intro x
      rw [show (1 : EReal) = ((1 : ℝ) : EReal) from rfl, Ideal.div_coe one_ne_zero, ← EReal.coe_mul, ← EReal.coe_mul]; congr 1; ring
    simp only [d1, ← EReal.coe_sub, ← EReal.coe_mul, coe_sum', mul_zero, Finset.sum_const_zero, sub_self, zero_add, mul_one, hp, EReal.coe_zero, add_zero]
    congr 1
    refine Finset.sum_congr rfl fun k _ => ?_
    rw [mul_comm]; congr 1
    exact Finset.sum_congr rfl fun n _ => mul_comm _ _
  · have hp' : p ≠ 0 := fun e => hp (by rw [e]; rfl)
    unfold safeP flagP
    simp only [if_neg hp]
    have d1 : ∀ x : ℝ, (x : EReal) * Ideal.div 1 (p : EReal) = ((x * (1 / p) : ℝ) : EReal) := by
      intro x
      rw [Ideal.div_coe hp', one_mul, ← EReal.coe_mul]
    simp only [d1, ← EReal.coe_sub, ← EReal.coe_mul, coe_sum', sub_self, mul_zero, Finset.sum_const_zero, EReal.coe_zero, add_zero, mul_one]
    rw [add_mul_real _ _ _ hp']
    congr 1
    · congr 1
      exact Finset.sum_congr rfl fun n _ => mul_comm _ _
    · congr 1
      rw [Finset.sum_mul]
      refine Finset.sum_congr rfl fun k _ => ?_
      have : ∑ n : Fin 2240, ld' n k * row' n.val = ∑ n : Fin 2240, row' n.val * ld' n k := Finset.sum_congr rfl fun n _ => mul_comm _ _
      rw [this]
      field_simp
end Cert.Own
-- ==== Proof.Finite.lean ====
/- What the precondition says: the arguments it names are real numbers and the activations' global scale is not zero. -/
module

public import proofs.«01_k».proof.Proof.Gen.Pre_pre
public import proofs.«01_k».proof.Proof.Scalars
public import Idealize.ShloMosaic.Lib.ReduceAll
public import Idealize.ShloMosaic.Lib.Pointwise

@[expose] public section

set_option maxRecDepth 16384

noncomputable section

namespace Cert.Own

open Idealize.ShloMosaic Cert.Pre_pre

theorem cinf : Ideal.ofBits .f32 0x7F800000#32 = (⊤ : EReal) := by
  simp [Ideal.ofBits, Ideal.ieee]

instance : Subsingleton S_.Idx := ⟨fun a b => funext fun i => i.elim0⟩

theorem real_of_abs {φ : FTy} (x : EReal) (h : FloatOps.absf (F := Ideal) (φ := φ) x < Ideal.ofBits .f32 0x7F800000#32) : ∃ r : ℝ, x = (r : EReal) := by
  rw [cinf] at h
  have h' : max x (-x) < ⊤ := h
  induction x with
  | bot => simp at h'
  | top => simp at h'
  | coe r => exact ⟨r, rfl⟩

theorem of_pre (a0 : FVec Ideal S1x1024x2240 .bf16) (a1 : FVec Ideal S2240 .f32) (a2 : FVec Ideal S_ .f32) (a3 : IVec S6720x1120 8) (a4 : FVec Ideal S6720x140 .fp8e4m3)
    (a5 : FVec Ideal S_ .f32) (a6 : FVec Ideal S2240x32 .bf16) (a7 : FVec Ideal S32x6720 .bf16) (a8 : FVec Ideal S6720 .f32)
    (h : fn (F := Ideal) a0 a1 a2 a3 a4 a5 a6 a7 a8 ix0 = 1#1) :
    (∀ i, ∃ r : ℝ, a0 i = (r : EReal)) ∧ (∀ i, ∃ r : ℝ, a1 i = (r : EReal)) ∧ (∀ i, ∃ r : ℝ, a6 i = (r : EReal)) ∧ (∀ i, ∃ r : ℝ, a7 i = (r : EReal))
      ∧ (∃ r : ℝ, a2 ix0 = (r : EReal) ∧ r ≠ 0) ∧ ∃ r : ℝ, a5 ix0 = (r : EReal) := by
  unfold fn fn_part1 at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have lt : ∀ {x y : EReal}, BitVec.ofBool (decide (x < y)) = 1#1 → x < y := by
    intro x y e; by_contra hn; rw [decide_eq_false hn] at e; exact absurd e (by decide)
  have ne : ∀ {x y : EReal}, BitVec.ofBool (decide (x ≠ y)) = 1#1 → x ≠ y := by
    intro x y e; by_contra hn; rw [decide_eq_false (by simpa using hn)] at e; exact absurd e (by decide)
  have k0 := fun i => Host.reduce_andi_all _ _ _ _ _ h0 i
  have k1 := fun i => Host.reduce_andi_all _ _ _ _ _ h1 i
  have k2 := fun i => Host.reduce_andi_all _ _ _ _ _ h2 i
  have k3 := fun i => Host.reduce_andi_all _ _ _ _ _ h3 i
  refine ⟨fun i => ?_, fun i => ?_, fun i => ?_, fun i => ?_, ?_, ?_⟩
  · exact real_of_abs (φ := .f32) _ (lt (k0 i))
  · exact real_of_abs (φ := .f32) _ (lt (k1 i))
  · exact real_of_abs (φ := .f32) _ (lt (k2 i))
  · exact real_of_abs (φ := .f32) _ (lt (k3 i))
  · obtain ⟨r, hr⟩ := real_of_abs (φ := .f32) (a2 ix0) (lt h4)
    refine ⟨r, hr, fun e => ne h6 ?_⟩
    rw [hr, e]
    simp [Ideal.ofBits, Ideal.ieee, constant]
  · exact real_of_abs (φ := .f32) _ (lt h5)

end Cert.Own
-- ==== Proof.Result.lean ====
/- The three results as functions of the nine arguments, over the extended reals. -/
module

public import proofs.«01_k».proof.Proof.Algebra
public import proofs.«01_k».proof.Proof.Finite

@[expose] public section

noncomputable section

namespace Cert.Own

open Idealize.ShloMosaic

/-- Token `l`'s activations, scaled. -/
def rowOf (a0 : FVec Ideal ⟨3, ![1, 1024, 2240]⟩ .bf16) (a1 : FVec Ideal ⟨1, ![2240]⟩ .f32) (l : Fin 1024) (n : ℕ) : EReal :=
  if h : n < 2240 then a0 (ix3 0 l ⟨n, h⟩) * a1 (ix1 ⟨n, h⟩) else 0

/-- A dequantised weight. -/
def wOf (a3 : IVec ⟨2, ![6720, 1120]⟩ 8) (a4 : FVec Ideal ⟨2, ![6720, 140]⟩ .fp8e4m3) (o : Fin 6720) (n : Fin 2240) : EReal :=
  dec ((a3 (ix2 o ⟨n.val / 2, by omega⟩)).toNat / 16 ^ (n.val % 2) % 16) * a4 (ix2 o ⟨n.val / 16, by omega⟩)

/-- The result `y`. -/
def yOf (a0 : FVec Ideal ⟨3, ![1, 1024, 2240]⟩ .bf16) (a1 : FVec Ideal ⟨1, ![2240]⟩ .f32) (a2 : FVec Ideal ⟨0, ![]⟩ .f32) (a3 : IVec ⟨2, ![6720, 1120]⟩ 8)
    (a4 : FVec Ideal ⟨2, ![6720, 140]⟩ .fp8e4m3) (a5 : FVec Ideal ⟨0, ![]⟩ .f32) (a6 : FVec Ideal ⟨2, ![2240, 32]⟩ .bf16) (a7 : FVec Ideal ⟨2, ![32, 6720]⟩ .bf16)
    (a8 : FVec Ideal ⟨1, ![6720]⟩ .f32) : FVec Ideal ⟨3, ![1, 1024, 6720]⟩ .bf16 := fun i =>
  (∑ n : Fin 2240, dec (CD (a2 ix0) (rowOf a0 a1 (i 1)) n.val) * SF (a2 ix0) (rowOf a0 a1 (i 1)) (n.val / 16) * wOf a3 a4 (i 2) n) * (a2 ix0 * a5 ix0)
    + (∑ k : Fin 32, (∑ n : Fin 2240, rowOf a0 a1 (i 1) n.val * a6 (ix2 n k)) * a7 (ix2 k (i 2))) + a8 (ix1 (i 2))

/-- The packed codes. -/
def pOf (a0 : FVec Ideal ⟨3, ![1, 1024, 2240]⟩ .bf16) (a1 : FVec Ideal ⟨1, ![2240]⟩ .f32) (a2 : FVec Ideal ⟨0, ![]⟩ .f32) : IVec ⟨3, ![1, 1024, 1120]⟩ 8 := fun i =>
  PB (a2 ix0) (rowOf a0 a1 (i 1)) (i 2).val
/-- The scales. -/
def sOf (a0 : FVec Ideal ⟨3, ![1, 1024, 2240]⟩ .bf16) (a1 : FVec Ideal ⟨1, ![2240]⟩ .f32) (a2 : FVec Ideal ⟨0, ![]⟩ .f32) : FVec Ideal ⟨3, ![1, 1024, 140]⟩ .fp8e4m3 := fun i =>
  SF (a2 ix0) (rowOf a0 a1 (i 1)) (i 2).val

/-- What the precondition gives of the arguments. -/
structure Real' (a0 : FVec Ideal ⟨3, ![1, 1024, 2240]⟩ .bf16) (a1 : FVec Ideal ⟨1, ![2240]⟩ .f32) (a2 : FVec Ideal ⟨0, ![]⟩ .f32) (a5 : FVec Ideal ⟨0, ![]⟩ .f32)
    (a6 : FVec Ideal ⟨2, ![2240, 32]⟩ .bf16) (a7 : FVec Ideal ⟨2, ![32, 6720]⟩ .bf16) : Prop where
  x : ∀ i, ∃ r : ℝ, a0 i = (r : EReal)
  s : ∀ i, ∃ r : ℝ, a1 i = (r : EReal)
  d : ∀ i, ∃ r : ℝ, a6 i = (r : EReal)
  u : ∀ i, ∃ r : ℝ, a7 i = (r : EReal)
  g : ∃ r : ℝ, a2 ix0 = (r : EReal) ∧ r ≠ 0
  w : ∃ r : ℝ, a5 ix0 = (r : EReal)

theorem rowOf_real (a0 : FVec Ideal ⟨3, ![1, 1024, 2240]⟩ .bf16) (a1 : FVec Ideal ⟨1, ![2240]⟩ .f32) (hx : ∀ i, ∃ r : ℝ, a0 i = (r : EReal)) (hs : ∀ i, ∃ r : ℝ, a1 i = (r : EReal))
    (l : Fin 1024) (n : ℕ) : ∃ r : ℝ, rowOf a0 a1 l n = (r : EReal) := by
  unfold rowOf
  split
  · rename_i h
    obtain ⟨x, ex⟩ := hx (ix3 0 l ⟨n, h⟩)
    obtain ⟨s, es⟩ := hs (ix1 ⟨n, h⟩)
    exact ⟨x * s, by rw [ex, es, EReal.coe_mul]⟩
  · exact ⟨0, rfl⟩

end Cert.Own
-- ==== Proof.KernelIdeal.Results.lean ====
/- The kernel's three results as functions of its arguments. -/
module

public import proofs.«01_k».proof.Proof.KernelIdeal.HostValues
public import proofs.«01_k».proof.Proof.Result

@[expose] public section

set_option maxRecDepth 16384

noncomputable section

namespace Cert.KernelIdeal.Own

open Cert.KernelIdeal.Gen Cert.Own
open Idealize.ShloMosaic Idealize.ShloMosaic.TcCoe Idealize.SL.Sem Idealize.ShloMosaic.Tactic

variable (m : (ℓ : Loc nD τ sig) → Buf (Elt Ideal) ℓ) (ρ : Dev nD → PrngReg) (c : Dev nD)

theorem colA_row (l : Fin 1024) : colA (V5 m ρ c main_v1) (V5 m ρ c main_v13) l = rowOf (m ((c : Thread nD τ).loc main_arg0)) (m ((c : Thread nD τ).loc main_arg1)) l := by
  funext n
  unfold colA rowOf
  split
  · rename_i h; rw [V5_v1, V5_v13]
  · rfl

variable (H : Real' (m ((c : Thread nD τ).loc main_arg0)) (m ((c : Thread nD τ).loc main_arg1)) (m ((c : Thread nD τ).loc main_arg2)) (m ((c : Thread nD τ).loc main_arg5))
  (m ((c : Thread nD τ).loc main_arg6)) (m ((c : Thread nD τ).loc main_arg7)))

include H in
theorem col_real (l : Fin 1024) (n : ℕ) : ∃ x : ℝ, colA (V5 m ρ c main_v1) (V5 m ρ c main_v13) l n = (x : EReal) := by
  rw [colA_row]; exact rowOf_real _ _ H.x H.s l n

include H in
theorem a5_eq : (dat0 (V5 m ρ) c).arrAt 5 cfg0.N = A5 (V5 m ρ) c := by
  obtain ⟨γ, hg, h0⟩ := H.g
  exact final0_5 (V5 m ρ) c ((V5_v12 m ρ c).trans hg) h0 (col_real m ρ c H)
include H in
theorem a7_eq : (dat0 (V5 m ρ) c).arrAt 7 cfg0.N = A7 (V5 m ρ) c := by
  obtain ⟨γ, hg, h0⟩ := H.g
  exact final0_7 (V5 m ρ) c ((V5_v12 m ρ c).trans hg) h0 (col_real m ρ c H)

variable (X : Fin cfg1.N → Vec Ideal S256x1024 .bf16) (hX : ∀ t, RelOut (V7 m ρ) c t (X t))

include H in
theorem res23 : W9 m ρ X c (Proc.devRef .tc main_v23) = pOf (m ((c : Thread nD τ).loc main_arg0)) (m ((c : Thread nD τ).loc main_arg1)) (m ((c : Thread nD τ).loc main_arg2)) := by
  have key : ∀ (l : Fin 1024) (o : Fin 1120), W9 m ρ X c (Proc.devRef .tc main_v23) (ix3 0 l o)
      = pOf (m ((c : Thread nD τ).loc main_arg0)) (m ((c : Thread nD τ).loc main_arg1)) (m ((c : Thread nD τ).loc main_arg2)) (ix3 0 l o) := fun l o => by
    rw [W9_v23, W8_v15_0, a5_eq m ρ c H]
    show PB (V5 m ρ c main_v12 (ix1 0)) (colA (V5 m ρ c main_v1) (V5 m ρ c main_v13) l) o.val = PB _ _ o.val
    rw [V5_v12, colA_row]; rfl
  funext i
  have e : i = ix3 0 (i 1) (i 2) := by
    refine (eq_ix3 i).trans ?_
    exact congrArg (fun q : Fin 1 => ix3 q (i 1) (i 2)) (Subsingleton.elim (α := Fin 1) _ _)
  rw [e]; exact key (i 1) (i 2)

theorem res25 : W9 m ρ X c (Proc.devRef .tc main_v25) = sOf (m ((c : Thread nD τ).loc main_arg0)) (m ((c : Thread nD τ).loc main_arg1)) (m ((c : Thread nD τ).loc main_arg2)) := by
  have key : ∀ (l : Fin 1024) (o : Fin 140), W9 m ρ X c (Proc.devRef .tc main_v25) (ix3 0 l o)
      = sOf (m ((c : Thread nD τ).loc main_arg0)) (m ((c : Thread nD τ).loc main_arg1)) (m ((c : Thread nD τ).loc main_arg2)) (ix3 0 l o) := fun l o => by
    rw [W9_v25, W8_v15_1, final0_6]
    show SF (V5 m ρ c main_v12 (ix1 0)) (colA (V5 m ρ c main_v1) (V5 m ρ c main_v13) l) o.val = SF _ _ o.val
    rw [V5_v12, colA_row]; rfl
  funext i
  have e : i = ix3 0 (i 1) (i 2) := by
    refine (eq_ix3 i).trans ?_
    exact congrArg (fun q : Fin 1 => ix3 q (i 1) (i 2)) (Subsingleton.elim (α := Fin 1) _ _)
  rw [e]; exact key (i 1) (i 2)

/-- The three kinds of rows of the weights. -/
theorem wt_lo (o : Fin 6720) (n : Fin 2240) : wtA (V7 m ρ c main_v16) (V7 m ρ c main_v17) (V7 m ρ c main_arg7) ⟨n.val, by omega⟩ o
    = wOf (m ((c : Thread nD τ).loc main_arg3)) (m ((c : Thread nD τ).loc main_arg4)) o n := by
  unfold wtA wOf
  rw [dif_pos n.isLt, V7_v16, V7_v17]
theorem wt_hi (o : Fin 6720) (k : Fin 32) : wtA (V7 m ρ c main_v16) (V7 m ρ c main_v17) (V7 m ρ c main_arg7) ⟨2240 + k.val, by omega⟩ o
    = (m ((c : Thread nD τ).loc main_arg7)) (ix2 k o) := by
  unfold wtA
  rw [dif_neg (show ¬ 2240 + k.val < 2240 by omega), dif_pos (show 2240 + k.val < 2272 by omega), V7_arg7]
  exact congrArg (fun q : Fin 32 => m ((c : Thread nD τ).loc main_arg7) (ix2 q o)) (Fin.ext (by show 2240 + k.val - 2240 = k.val; omega))
theorem wt_res (o : Fin 6720) (k : Fin 32) : wtA (V7 m ρ c main_v16) (V7 m ρ c main_v17) (V7 m ρ c main_arg7) ⟨2272 + k.val, by omega⟩ o
    = (m ((c : Thread nD τ).loc main_arg7)) (ix2 k o) := by
  unfold wtA
  rw [dif_neg (show ¬ 2272 + k.val < 2240 by omega), dif_neg (show ¬ 2272 + k.val < 2272 by omega), V7_arg7]
  exact congrArg (fun q : Fin 32 => m ((c : Thread nD τ).loc main_arg7) (ix2 q o)) (Fin.ext (by show 2272 + k.val - 2272 = k.val; omega))

/-- A token's low-rank product, scaled. -/
def lowM (k : Fin 32) (l : Fin 1024) : EReal :=
  (∑ n : Fin 2240, (show FVec Ideal S2240x32 .bf16 from m ((c : Thread nD τ).loc main_arg6)) (ix2 n k)
    * rowOf (m ((c : Thread nD τ).loc main_arg0)) (m ((c : Thread nD τ).loc main_arg1)) l n.val) * Ideal.div 1 (safeP (prodOf m c))

theorem lowA_eq (k : Fin 32) (l : Fin 1024) : lowA (V5 m ρ c main_v11) (V5 m ρ c main_v1) (V5 m ρ c main_v13) (V5 m ρ c main_v14) k l = lowM m c k l := by
  unfold lowA lowM
  rw [(V5_v11 m ρ c).1, colA_row]
  refine congrArg (· * Ideal.div 1 (safeP (prodOf m c))) ?_
  exact Finset.sum_congr rfl fun n _ => congrArg (· * _) (V5_v14 m ρ c k n)

theorem xq_lo (l : Fin 1024) (n : Fin 2240) : A7 (V5 m ρ) c (ix2 ⟨n.val, by omega⟩ l)
    = dec (CD (m ((c : Thread nD τ).loc main_arg2) ix0) (rowOf (m ((c : Thread nD τ).loc main_arg0)) (m ((c : Thread nD τ).loc main_arg1)) l) n.val)
      * (SF (m ((c : Thread nD τ).loc main_arg2) ix0) (rowOf (m ((c : Thread nD τ).loc main_arg0)) (m ((c : Thread nD τ).loc main_arg1)) l) (n.val / 16) * flagP (prodOf m c)) := by
  show xqA (V5 m ρ c main_v12) (V5 m ρ c main_v11) (V5 m ρ c main_v1) (V5 m ρ c main_v13) (V5 m ρ c main_v14) ⟨n.val, by omega⟩ l = _
  unfold xqA
  rw [dif_pos n.isLt, V5_v12, (V5_v11 m ρ c).2.1, colA_row]
  rfl
theorem xq_hi (l : Fin 1024) (k : Fin 32) : A7 (V5 m ρ) c (ix2 ⟨2240 + k.val, by omega⟩ l) = lowM m c k l := by
  show xqA (V5 m ρ c main_v12) (V5 m ρ c main_v11) (V5 m ρ c main_v1) (V5 m ρ c main_v13) (V5 m ρ c main_v14) ⟨2240 + k.val, by omega⟩ l = _
  unfold xqA
  rw [dif_neg (show ¬ 2240 + k.val < 2240 by omega), dif_pos (show 2240 + k.val < 2272 by omega), lowA_eq]
  exact congrArg (fun q : Fin 32 => lowM m c q l) (Fin.ext (by show 2240 + k.val - 2240 = k.val; omega))
theorem xq_res (l : Fin 1024) (k : Fin 32) : A7 (V5 m ρ) c (ix2 ⟨2272 + k.val, by omega⟩ l) = lowM m c k l - lowM m c k l := by
  show xqA (V5 m ρ c main_v12) (V5 m ρ c main_v11) (V5 m ρ c main_v1) (V5 m ρ c main_v13) (V5 m ρ c main_v14) ⟨2272 + k.val, by omega⟩ l = _
  unfold xqA
  rw [dif_neg (show ¬ 2272 + k.val < 2240 by omega), dif_neg (show ¬ 2272 + k.val < 2272 by omega), lowA_eq]
  exact congrArg (fun q : Fin 32 => lowM m c q l - lowM m c q l) (Fin.ext (by show 2272 + k.val - 2272 = k.val; omega))

include H in
theorem y_at (l : Fin 1024) (o : Fin 6720) : A19 (V7 m ρ) c (ix2 o l)
    = yOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (ix3 0 l o) := by
  obtain ⟨γ, hg, h0⟩ := H.g
  obtain ⟨η, hη⟩ := H.w
  have hp : prodOf m c = ((γ * η : ℝ) : EReal) := by
    unfold prodOf; rw [EReal.coe_mul]; exact congrArg₂ (· * ·) hg hη
  have hC : (show FVec Ideal S3 .f32 from V7 m ρ c main_v11) (ix1 2) = safeP (prodOf m c) := by
    rw [V7_v11]; exact (V5_v11 m ρ c).2.2
  have hB : (show FVec Ideal S1x6720 .f32 from V7 m ρ c main_v18) (ix2 0 o) = m ((c : Thread nD τ).loc main_arg8) (ix1 o) := V7_v18 m ρ c o
  have hQ : (show FVec Ideal S2304x1024 .bf16 from V7 m ρ c main_v15_2) = A7 (V5 m ρ) c := (V7_v15_2 m ρ c).trans (a7_eq m ρ c H)
  show (∑ n : Fin 2304, wtA (V7 m ρ c main_v16) (V7 m ρ c main_v17) (V7 m ρ c main_arg7) n o * (show FVec Ideal S2304x1024 .bf16 from V7 m ρ c main_v15_2) (ix2 n l))
    * (show FVec Ideal S3 .f32 from V7 m ρ c main_v11) (ix1 2) + (show FVec Ideal S1x6720 .f32 from V7 m ρ c main_v18) (ix2 0 o) = _
  rw [hC, hB, hQ, sum2304]
  rw [Finset.sum_congr rfl fun n _ => congrArg₂ (· * ·) (wt_lo m ρ c o n) (xq_lo m ρ c l n),
    Finset.sum_congr rfl fun k _ => congrArg₂ (· * ·) (wt_hi m ρ c o k) (xq_hi m ρ c l k),
    Finset.sum_congr rfl fun k _ => congrArg₂ (· * ·) (wt_res m ρ c o k) (xq_res m ρ c l k)]
  have E := elem (γ * η)
    (fun n => dec (CD (m ((c : Thread nD τ).loc main_arg2) ix0) (rowOf (m ((c : Thread nD τ).loc main_arg0)) (m ((c : Thread nD τ).loc main_arg1)) l) n.val))
    (fun n => SF (m ((c : Thread nD τ).loc main_arg2) ix0) (rowOf (m ((c : Thread nD τ).loc main_arg0)) (m ((c : Thread nD τ).loc main_arg1)) l) (n.val / 16))
    (fun n => wOf (m ((c : Thread nD τ).loc main_arg3)) (m ((c : Thread nD τ).loc main_arg4)) o n)
    (rowOf (m ((c : Thread nD τ).loc main_arg0)) (m ((c : Thread nD τ).loc main_arg1)) l)
    (fun n k => m ((c : Thread nD τ).loc main_arg6) (ix2 n k)) (fun k => m ((c : Thread nD τ).loc main_arg7) (ix2 k o)) (m ((c : Thread nD τ).loc main_arg8) (ix1 o))
    (rowOf_real _ _ H.x H.s l) (fun n k => H.d _) (fun k => H.u _)
  rw [← hp] at E
  exact E

include H hX in
theorem res21 : W9 m ρ X c (Proc.devRef .tc main_v21)
    = yOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) := by
  have key : ∀ (l : Fin 1024) (o : Fin 6720), W9 m ρ X c (Proc.devRef .tc main_v21) (ix3 0 l o) = A19 (V7 m ρ) c (ix2 o l) := fun l o => by
    rw [W9_v21, W8_v19, final1_6 (V7 m ρ) c X hX]
  funext i
  have e : i = ix3 0 (i 1) (i 2) := by
    refine (eq_ix3 i).trans ?_
    exact congrArg (fun q : Fin 1 => ix3 q (i 1) (i 2)) (Subsingleton.elim (α := Fin 1) _ _)
  rw [e]; exact (key (i 1) (i 2)).trans (y_at m ρ c H (i 1) (i 2))

/-- The kernel's run. -/
theorem run (m : (ℓ : Loc nD τ sig) → Buf (Elt Ideal) ℓ) (ρ : Dev nD → PrngReg)
    (H : ∀ c : Dev nD, Real' (m ((c.tc : Thread nD τ).loc main_arg0)) (m ((c.tc : Thread nD τ).loc main_arg1)) (m ((c.tc : Thread nD τ).loc main_arg2)) (m ((c.tc : Thread nD τ).loc main_arg5))
      (m ((c.tc : Thread nD τ).loc main_arg6)) (m ((c.tc : Thread nD τ).loc main_arg7))) :
    θ_run defs (onTc (τ := τ) (main (F := Ideal))) ⟨m, fun _ => 0, ρ⟩ (fun r => ∀ c : Dev nD,
      r.2.mem ((c.tc : Thread nD τ).loc main_v21) = yOf (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8))
      ∧ r.2.mem ((c.tc : Thread nD τ).loc main_v23) = pOf (m ((c.tc : Thread nD τ).loc main_arg0)) (m ((c.tc : Thread nD τ).loc main_arg1)) (m ((c.tc : Thread nD τ).loc main_arg2))
      ∧ r.2.mem ((c.tc : Thread nD τ).loc main_v25) = sOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r hr c => by
    obtain ⟨X, hX, h⟩ := hr.1 c
    have hb := fun (a : Ref sig .tc) (ha : a ∈ argRefs) (hu : ¬ (Proc.devRef .tc a : DevRef τ sig).isScoped) =>
      (h _ (mem_uc a hu)).trans (W9_args m ρ X c a ha)
    exact ⟨(h _ (mem_uc main_v21 (by decide))).trans (res21 m ρ c (H c) X hX), (h _ (mem_uc main_v23 (by decide))).trans (res23 m ρ c (H c) X),
      (h _ (mem_uc main_v25 (by decide))).trans (res25 m ρ c X),
      hb main_arg0 (by decide) (by decide), hb main_arg1 (by decide) (by decide), hb main_arg2 (by decide) (by decide), hb main_arg3 (by decide) (by decide), hb main_arg4 (by decide) (by decide), hb main_arg5 (by decide) (by decide), hb main_arg6 (by decide) (by decide), hb main_arg7 (by decide) (by decide), hb main_arg8 (by decide) (by decide)⟩) (runs m ρ)

end Cert.KernelIdeal.Own
-- ==== Proof.ReferenceIdeal.Values.lean ====
/- What the reference's body stores, element by element, over the extended reals. -/
module
public import proofs.«01_k».proof.Proof.Gen.ReferenceIdeal.Skeleton
public import proofs.«01_k».proof.Proof.Spec
public import Idealize.ShloMosaic.Lib.Pointwise

@[expose] public section

set_option maxRecDepth 16384
noncomputable section
namespace Cert.ReferenceIdeal.Own
open Cert.ReferenceIdeal.Gen Cert.Own
open Idealize.ShloMosaic Idealize.ShloMosaic.TcCoe Idealize.SL.Sem

/-- Row `r` of the activations, scaled. -/
def rowR (X : FVec Ideal S1024x2240 .bf16) (S : FVec Ideal S1x2240 .f32) (r : Fin 1024) (n : ℕ) : EReal :=
  if h : n < 2240 then X (ix2 r ⟨n, h⟩) * S (ix2 0 ⟨n, h⟩) else 0

theorem rowR_eq (X : FVec Ideal S1024x2240 .bf16) (S : FVec Ideal S1x2240 .f32) (r : Fin 1024) (n : ℕ) (h : n < 2240) :
    X (ix2 r ⟨n, h⟩) * S (ix2 0 ⟨n, h⟩) = rowR X S r n := by unfold rowR; rw [dif_pos h]

variable (X : FVec Ideal S1024x2240 .bf16) (S : FVec Ideal S1x2240 .f32) (g : EReal)

theorem rpay5_at (r : Fin 1024) (a : Fin 140) : k0_pay5 (F := Ideal) X S g (ix2 r a) = SF g (rowR X S r) a.val := by
  have e : k0_pay5 (F := Ideal) X S g (ix2 r a)
      = sfOf g (amax fun b => X (ix2 r ⟨a.val * 16 + b.val, by omega⟩) * S (ix2 0 ⟨a.val * 16 + b.val, by omega⟩)) := by
    pointwise [k0_pay5, k0_pay4, k0_pay3]
    rfl
  rw [e]; unfold SF
  congr 2; funext b; exact rowR_eq X S r _ _

theorem rpay7_at (r : Fin 1024) (a : Fin 140) (b : Fin 16) : k0_pay7 (F := Ideal) X S g (ix3 r a b) = TQ g (rowR X S r) (a.val * 16 + b.val) := by
  have e : k0_pay7 (F := Ideal) X S g (ix3 r a b)
      = Ideal.div (X (ix2 r ⟨a.val * 16 + b.val, by omega⟩) * S (ix2 0 ⟨a.val * 16 + b.val, by omega⟩)) (k0_pay5 (F := Ideal) X S g (ix2 r a) * g) := by
    pointwise [k0_pay7, k0_pay4, k0_pay3]
  rw [e, rpay5_at, rowR_eq]; unfold TQ
  rw [show (a.val * 16 + b.val) / 16 = a.val by omega]

/-- The packed codes as the reference computes them. -/
def pk13 : IVec S1024x1120 32 :=
  k0_pay13 (F := Ideal) (k0_pay7 (F := Ideal) X S g) (k0_pay8 (F := Ideal) X S g) (k0_pay9 (F := Ideal) X S g) (k0_pay10 (F := Ideal) X S g)
    (k0_pay11 (F := Ideal) X S g) (k0_pay12 (F := Ideal) X S g) (FloatOps.ofBits (F := Ideal) FTy.f32 1073741824#32)

theorem pk13_enc (r : Fin 1024) (i : Fin 1120) : pk13 X S g (ix2 r i)
    = IntOp.ori (encRef (k0_pay7 (F := Ideal) X S g (ix3 r ⟨i.val / 8, by omega⟩ ⟨i.val % 8 * 2, by omega⟩)))
        (IntOp.shli .vector (encRef (k0_pay7 (F := Ideal) X S g (ix3 r ⟨i.val / 8, by omega⟩ ⟨i.val % 8 * 2 + 1, by omega⟩))) 4#32) := by
  unfold pk13
  pointwise [k0_pay13, k0_pay12, k0_pay11, k0_pay10, k0_pay9, k0_pay8]
  generalize k0_pay7 (F := Ideal) X S g (ix3 r ⟨i.val / 8, _⟩ ⟨i.val % 8 * 2, _⟩) = t
  generalize k0_pay7 (F := Ideal) X S g (ix3 r ⟨i.val / 8, _⟩ ⟨i.val % 8 * 2 + 1, _⟩) = u
  rfl

section
variable {γ : ℝ} (hg : g = (γ : EReal)) (h0 : γ ≠ 0) (hr : ∀ r n, ∃ x : ℝ, rowR X S r n = (x : EReal))

include hg h0 hr in
theorem enc7 (r : Fin 1024) (a : Fin 140) (b : Fin 16) :
    encRef (k0_pay7 (F := Ideal) X S g (ix3 r a b)) = BitVec.ofNat 32 (CD g (rowR X S r) (a.val * 16 + b.val)) := by
  obtain ⟨x, hx⟩ := hr r (a.val * 16 + b.val)
  rw [rpay7_at, TQ_real hg h0 _ _ hx, encRef_eq]; rfl

include hg h0 hr in
theorem pk13_at (r : Fin 1024) (i : Fin 1120) : pk13 X S g (ix2 r i)
    = BitVec.ofNat 32 (CD g (rowR X S r) (2 * i.val) + 16 * CD g (rowR X S r) (2 * i.val + 1)) := by
  rw [pk13_enc, enc7 X S g hg h0 hr, enc7 X S g hg h0 hr, packRef_eq _ _ (CD_lt _ _ _) (CD_lt _ _ _)]
  show BitVec.ofNat 32 (CD g _ (i.val / 8 * 16 + i.val % 8 * 2) + 16 * CD g _ (i.val / 8 * 16 + (i.val % 8 * 2 + 1))) = _
  rw [show i.val / 8 * 16 + i.val % 8 * 2 = 2 * i.val by omega, show i.val / 8 * 16 + (i.val % 8 * 2 + 1) = 2 * i.val + 1 by omega]

include hg h0 hr in
/-- The stored byte. -/
theorem rpay2_at (r : Fin 1024) (i : Fin 1120) : k0_pay2 (pk13 X S g) (ix2 r i) = PB g (rowR X S r) i.val := by
  have e : k0_pay2 (pk13 X S g) (ix2 r i) = BitVec.setWidth 8 (pk13 X S g (ix2 r i)) := by
    pointwise [k0_pay2]
    all_goals rfl
  rw [e, pk13_at X S g hg h0 hr]
  unfold PB
  apply BitVec.eq_of_toNat_eq
  rw [BitVec.toNat_setWidth, BitVec.toNat_ofNat, BitVec.toNat_ofNat]
  have := CD_lt g (rowR X S r) (2 * i.val); have := CD_lt g (rowR X S r) (2 * i.val + 1)
  omega
end

/-- The stored scale. -/
theorem rpay6_at (r : Fin 1024) (a : Fin 140) : k0_pay6 (F := Ideal) X S g (ix2 r a) = SF g (rowR X S r) a.val := by
  rw [← rpay5_at]; pointwise [k0_pay6]

/-- The dequantised activations as the reference computes them. -/
def xq22 (Q : FVec Ideal S1024x140 .fp8e4m3) (A : IVec S1024x1120 32) (B : IVec S1024x1120 1) (P : IVec S1024x1120 32) : FVec Ideal S1024x2240 .bf16 :=
  k0_pay22 (F := Ideal) (k0_pay14 (F := Ideal) Q) (k0_pay17 (F := Ideal) (k0_pay14 (F := Ideal) Q) A B) (k0_pay19 P 4#32) (k0_pay20 (F := Ideal) P 4#32) (k0_pay21 (F := Ideal))

theorem xq22_dec (Q : FVec Ideal S1024x140 .fp8e4m3) (A : IVec S1024x1120 32) (B : IVec S1024x1120 1) (P : IVec S1024x1120 32) (r : Fin 1024) (n : Fin 2240)
    (hB : ∀ i : Fin 1120, B (ix2 r i) = bitRef (A (ix2 r i))) :
    xq22 Q A B P (ix2 r n) = decRef (if n.val % 2 < 1 then A (ix2 r ⟨n.val / 2, by omega⟩) else IntOp.shrsi .vector (P (ix2 r ⟨n.val / 2, by omega⟩)) 4#32)
      * Q (ix2 r ⟨n.val / 16, by omega⟩) := by
  unfold xq22
  pointwise [k0_pay22, k0_pay21, k0_pay20, k0_pay19, k0_pay18, k0_pay17, k0_pay14]
  simp only [Nat.div_add_mod']
  simp only [Nat.div_div_eq_div_mul, Nat.reduceMul]
  by_cases h : n.val % 2 < 1
  · rw [dif_pos h, if_pos h, hB]; rfl
  · rw [dif_neg h, if_neg h]; rfl

/-- The dequantised weights as the reference computes them. -/
def wq (X3 : IVec S6720x1120 8) (X4 : FVec Ideal S6720x140 .fp8e4m3) (V180 : FVec Ideal S1024x2240 .bf16) : FVec Ideal S1024x6720 .f32 :=
  (k0_pay39 (F := Ideal) V180 (k0_pay24 (F := Ideal) X4)
    (k0_pay32 (F := Ideal) (k0_pay24 (F := Ideal) X4) (k0_pay26 (F := Ideal) X3) (k0_pay27 (F := Ideal) X3) (k0_pay28 (F := Ideal) X3) (k0_pay29 (F := Ideal) X3) (k0_pay30 (F := Ideal)) (k0_pay31 (F := Ideal)))
    (k0_pay34 (k0_pay23 (F := Ideal) X3)) (k0_pay35 (k0_pay23 (F := Ideal) X3)) (k0_pay36 (k0_pay23 (F := Ideal) X3)) (k0_pay37 (k0_pay23 (F := Ideal) X3)) k0_pay38)

theorem wq_dec (X3 : IVec S6720x1120 8) (X4 : FVec Ideal S6720x140 .fp8e4m3) (V180 : FVec Ideal S1024x2240 .bf16) (r : Fin 1024) (o : Fin 6720) :
    wq X3 X4 V180 (ix2 r o) = ∑ n : Fin 2240, V180 (ix2 r n) *
      (decRef (if n.val % 2 < 1 then IntOp.andi (BitVec.setWidth 32 (X3 (ix2 o ⟨n.val / 2, by omega⟩))) 15#32
          else IntOp.shrsi .vector (BitVec.setWidth 32 (X3 (ix2 o ⟨n.val / 2, by omega⟩))) 4#32)
        * X4 (ix2 o ⟨n.val / 16, by omega⟩)) := by
  unfold wq
  pointwise [k0_pay39, k0_pay38, k0_pay37, k0_pay36, k0_pay35, k0_pay34, k0_pay33, k0_pay32, k0_pay31, k0_pay30, k0_pay29, k0_pay28, k0_pay27, k0_pay26, k0_pay25, k0_pay24, k0_pay23]
  simp only [Nat.div_add_mod']
  simp only [Nat.div_div_eq_div_mul, Nat.reduceMul]
  refine Finset.sum_congr rfl fun n _ => congrArg (V180 (ix2 r n) * ·) ?_
  by_cases h : n.val % 2 < 1
  · rw [dif_pos h, if_pos h]; rfl
  · rw [dif_neg h, if_neg h]; rfl

theorem lr_at (X6 : FVec Ideal S2240x32 .bf16) (X7 : FVec Ideal S32x6720 .bf16) (r : Fin 1024) (o : Fin 6720) :
    k0_pay40 (F := Ideal) (k0_pay3 (F := Ideal) X S) X6 X7 (ix2 r o)
      = ∑ k : Fin 32, (∑ n : Fin 2240, rowR X S r n.val * X6 (ix2 n k)) * X7 (ix2 k o) := by
  simp only [← rowR_eq X S r _ (Fin.isLt _)]
  pointwise [k0_pay40, k0_pay3]

theorem y_at (A L D : FVec Ideal S1024x6720 .f32) (X8 : FVec Ideal S1x6720 .f32) (r : Fin 1024) (o : Fin 6720) :
    k0_pay1 (F := Ideal) A L D X8 (ix2 r o) = A (ix2 r o) * D (ix2 r o) + L (ix2 r o) + X8 (ix2 0 o) := by
  pointwise [k0_pay1]

theorem c_at (X2 X5 : EReal) (r : Fin 1024) (o : Fin 6720) : k0_pay41 (F := Ideal) X2 X5 (ix2 r o) = X2 * X5 := by
  pointwise [k0_pay41]

/-- The packed codes' low nibbles as the reference computes them. -/
def lo15 : IVec S1024x1120 32 :=
  k0_pay15 (F := Ideal) (k0_pay7 (F := Ideal) X S g) (k0_pay8 (F := Ideal) X S g) (k0_pay9 (F := Ideal) X S g) (k0_pay10 (F := Ideal) X S g)
    (k0_pay11 (F := Ideal) X S g) (k0_pay12 (F := Ideal) X S g) (FloatOps.ofBits (F := Ideal) FTy.f32 1073741824#32)
def bit16 : IVec S1024x1120 1 :=
  k0_pay16 (F := Ideal) (k0_pay7 (F := Ideal) X S g) (k0_pay8 (F := Ideal) X S g) (k0_pay9 (F := Ideal) X S g) (k0_pay10 (F := Ideal) X S g)
    (k0_pay11 (F := Ideal) X S g) (k0_pay12 (F := Ideal) X S g) (FloatOps.ofBits (F := Ideal) FTy.f32 1073741824#32)

theorem lo15_at (r : Fin 1024) (i : Fin 1120) : lo15 X S g (ix2 r i) = IntOp.andi (pk13 X S g (ix2 r i)) 15#32 := by
  unfold lo15 pk13
  generalize k0_pay7 (F := Ideal) X S g = a
  generalize k0_pay8 (F := Ideal) X S g = b
  generalize k0_pay9 (F := Ideal) X S g = c
  generalize k0_pay10 (F := Ideal) X S g = d
  generalize k0_pay11 (F := Ideal) X S g = e
  generalize k0_pay12 (F := Ideal) X S g = f
  pointwise [k0_pay15]

theorem bit16_at (r : Fin 1024) (i : Fin 1120) : bit16 X S g (ix2 r i) = bitRef (lo15 X S g (ix2 r i)) := by
  unfold bit16 lo15
  generalize k0_pay7 (F := Ideal) X S g = a
  generalize k0_pay8 (F := Ideal) X S g = b
  generalize k0_pay9 (F := Ideal) X S g = c
  generalize k0_pay10 (F := Ideal) X S g = d
  generalize k0_pay11 (F := Ideal) X S g = e
  generalize k0_pay12 (F := Ideal) X S g = f
  unfold bitRef
  pointwise [k0_pay16]

section
variable {γ : ℝ} (hg : g = (γ : EReal)) (h0 : γ ≠ 0) (hr : ∀ r n, ∃ x : ℝ, rowR X S r n = (x : EReal))

include hg h0 hr in
/-- The dequantised activations. -/
theorem xq_at (r : Fin 1024) (n : Fin 2240) : xq22 (k0_pay6 (F := Ideal) X S g) (lo15 X S g) (bit16 X S g) (pk13 X S g) (ix2 r n)
    = dec (CD g (rowR X S r) n.val) * SF g (rowR X S r) (n.val / 16) := by
  rw [xq22_dec _ _ _ _ r n (bit16_at X S g r), rpay6_at]
  refine congrArg (· * SF g (rowR X S r) (n.val / 16)) ?_
  by_cases h : n.val % 2 < 1
  · rw [if_pos h, lo15_at, pk13_at X S g hg h0 hr, lowRef_eq _ _ (CD_lt _ _ _) (CD_lt _ _ _), decRef_eq _ (CD_lt _ _ _)]
    show dec (CD g _ (2 * (n.val / 2))) = _
    rw [show 2 * (n.val / 2) = n.val by omega]
  · rw [if_neg h, pk13_at X S g hg h0 hr, highRef_eq _ _ (CD_lt _ _ _) (CD_lt _ _ _), decRef_eq _ (CD_lt _ _ _)]
    show dec (CD g _ (2 * (n.val / 2) + 1)) = _
    rw [show 2 * (n.val / 2) + 1 = n.val by omega]
end

/-- A dequantised weight. -/
def wtR (X3 : IVec S6720x1120 8) (X4 : FVec Ideal S6720x140 .fp8e4m3) (o : Fin 6720) (n : Fin 2240) : EReal :=
  dec ((X3 (ix2 o ⟨n.val / 2, by omega⟩)).toNat / 16 ^ (n.val % 2) % 16) * X4 (ix2 o ⟨n.val / 16, by omega⟩)

theorem wq_at (X3 : IVec S6720x1120 8) (X4 : FVec Ideal S6720x140 .fp8e4m3) (V180 : FVec Ideal S1024x2240 .bf16) (r : Fin 1024) (o : Fin 6720) :
    wq X3 X4 V180 (ix2 r o) = ∑ n : Fin 2240, V180 (ix2 r n) * wtR X3 X4 o n := by
  rw [wq_dec]
  refine Finset.sum_congr rfl fun n _ => congrArg (V180 (ix2 r n) * ·) ?_
  unfold wtR
  refine congrArg (· * X4 (ix2 o ⟨n.val / 16, by omega⟩)) ?_
  generalize X3 (ix2 o ⟨n.val / 2, by omega⟩) = w
  have hw := w.isLt
  by_cases h : n.val % 2 < 1
  · rw [if_pos h, lowByte, decRef_eq _ (Nat.mod_lt _ (by omega)), show n.val % 2 = 0 by omega, pow_zero, Nat.div_one]
  · rw [if_neg h, highByte, decRef_eq _ (by omega), show n.val % 2 = 1 by omega, pow_one, Nat.mod_eq_of_lt (by omega)]

/-- The whole body's `y`. -/
theorem y9_at {γ : ℝ} (hg : g = (γ : EReal)) (h0 : γ ≠ 0) (hr : ∀ r n, ∃ x : ℝ, rowR X S r n = (x : EReal))
    (X3 : IVec S6720x1120 8) (X4 : FVec Ideal S6720x140 .fp8e4m3) (X5 : EReal) (X6 : FVec Ideal S2240x32 .bf16) (X7 : FVec Ideal S32x6720 .bf16) (X8 : FVec Ideal S1x6720 .f32)
    (r : Fin 1024) (o : Fin 6720) :
    k0_pay1 (F := Ideal) (wq X3 X4 (xq22 (k0_pay6 (F := Ideal) X S g) (lo15 X S g) (bit16 X S g) (pk13 X S g)))
        (k0_pay40 (F := Ideal) (k0_pay3 (F := Ideal) X S) X6 X7) (k0_pay41 (F := Ideal) g X5) X8 (ix2 r o)
      = (∑ n : Fin 2240, dec (CD g (rowR X S r) n.val) * SF g (rowR X S r) (n.val / 16) * wtR X3 X4 o n) * (g * X5)
        + (∑ k : Fin 32, (∑ n : Fin 2240, rowR X S r n.val * X6 (ix2 n k)) * X7 (ix2 k o)) + X8 (ix2 0 o) := by
  rw [y_at, c_at, lr_at, wq_at]
  refine congrArg (· * (g * X5) + _ + X8 (ix2 0 o)) ?_
  exact Finset.sum_congr rfl fun n _ => congrArg (· * wtR X3 X4 o n) (xq_at X S g hg h0 hr r n)
-- ==== Proof.ReferenceIdeal.Arrays.lean ====
/- What the reference's output arrays hold, as functions of the arrays it is called with. -/
module
public import proofs.«01_k».proof.Proof.Gen.ReferenceIdeal.Frame
public import proofs.«01_k».proof.Proof.ReferenceIdeal.Values
public import Idealize.ShloMosaic.Lib.Pipeline.ValueKit
public import Idealize.ShloMosaic.Lib.Claim

@[expose] public section

set_option maxRecDepth 16384

noncomputable section

namespace Cert.ReferenceIdeal.Own

open Cert.ReferenceIdeal.Gen Cert.Own
open Idealize.ShloMosaic Idealize.ShloMosaic.TcCoe Idealize.SL.Sem Idealize.ShloMosaic.Tactic
open Idealize.ShloMosaic.Pipeline (Dat)

variable (m : (ℓ : Loc nD τ sig) → Buf (Elt Ideal) ℓ) (c : Dev nD)

/-- Every window's block index at the one point. -/
theorem idx : ∀ t : Fin cfg0.N, win0_0.index t = ![0, 0] ∧ win0_1.index t = ![0, 0] ∧ win0_2.index t = ![0] ∧ win0_3.index t = ![0, 0] ∧ win0_4.index t = ![0, 0]
    ∧ win0_5.index t = ![0] ∧ win0_6.index t = ![0, 0] ∧ win0_7.index t = ![0, 0] ∧ win0_8.index t = ![0, 0] ∧ win0_9.index t = ![0, 0]
    ∧ win0_10.index t = ![0, 0] ∧ win0_11.index t = ![0, 0] :=
  (by decide +kernel : ∀ t : Fin grid0.N, _)

theorem blk0 : iblk m c 0 t0_0 = V m c main_v0 := by blk_ext! [iblk, idx t0_0]
theorem blk1 : iblk m c 1 t0_0 = V m c main_v1 := by blk_ext! [iblk, idx t0_0]
theorem blk2 : iblk m c 2 t0_0 = V m c main_v2 := by blk_ext! [iblk, idx t0_0]
theorem blk3 : iblk m c 3 t0_0 = V m c main_arg3 := by blk_ext! [iblk, idx t0_0]
theorem blk4 : iblk m c 4 t0_0 = V m c main_arg4 := by blk_ext! [iblk, idx t0_0]
theorem blk5 : iblk m c 5 t0_0 = V m c main_v3 := by blk_ext! [iblk, idx t0_0]
theorem blk6 : iblk m c 6 t0_0 = V m c main_arg6 := by blk_ext! [iblk, idx t0_0]
theorem blk7 : iblk m c 7 t0_0 = V m c main_arg7 := by blk_ext! [iblk, idx t0_0]
theorem blk8 : iblk m c 8 t0_0 = V m c main_v4 := by blk_ext! [iblk, idx t0_0]

theorem rd0 : View.read (Elt Ideal) (View.whole cc0_stg0_0) ((hs0_0 t0_0).unread (iblk m c 0 t0_0)) = V m c main_v0 :=
  ((hs0_0 t0_0).read_unread (iblk m c 0 t0_0)).trans (blk0 m c)
theorem rd1 : View.read (Elt Ideal) (View.whole cc0_stg1_0) ((hs0_1 t0_0).unread (iblk m c 1 t0_0)) = V m c main_v1 :=
  ((hs0_1 t0_0).read_unread (iblk m c 1 t0_0)).trans (blk1 m c)
theorem rd2 (j : S1.Idx) : View.read (Elt Ideal) (View.whole cc0_stg2_0) ((hs0_2 t0_0).unread (iblk m c 2 t0_0)) j = V m c main_v2 j :=
  congrFun (((hs0_2 t0_0).read_unread (iblk m c 2 t0_0)).trans (blk2 m c)) j

theorem rd3 : View.read (Elt Ideal) (View.whole cc0_stg3_0) ((hs0_3 t0_0).unread (iblk m c 3 t0_0)) = V m c main_arg3 :=
  ((hs0_3 t0_0).read_unread (iblk m c 3 t0_0)).trans (blk3 m c)
theorem rd4 : View.read (Elt Ideal) (View.whole cc0_stg4_0) ((hs0_4 t0_0).unread (iblk m c 4 t0_0)) = V m c main_arg4 :=
  ((hs0_4 t0_0).read_unread (iblk m c 4 t0_0)).trans (blk4 m c)
theorem rd5 (j : S1.Idx) : View.read (Elt Ideal) (View.whole cc0_stg5_0) ((hs0_5 t0_0).unread (iblk m c 5 t0_0)) j = V m c main_v3 j :=
  congrFun (((hs0_5 t0_0).read_unread (iblk m c 5 t0_0)).trans (blk5 m c)) j
theorem rd6 : View.read (Elt Ideal) (View.whole cc0_stg6_0) ((hs0_6 t0_0).unread (iblk m c 6 t0_0)) = V m c main_arg6 :=
  ((hs0_6 t0_0).read_unread (iblk m c 6 t0_0)).trans (blk6 m c)
theorem rd7 : View.read (Elt Ideal) (View.whole cc0_stg7_0) ((hs0_7 t0_0).unread (iblk m c 7 t0_0)) = V m c main_arg7 :=
  ((hs0_7 t0_0).read_unread (iblk m c 7 t0_0)).trans (blk7 m c)
theorem rd8 : View.read (Elt Ideal) (View.whole cc0_stg8_0) ((hs0_8 t0_0).unread (iblk m c 8 t0_0)) = V m c main_v4 :=
  ((hs0_8 t0_0).read_unread (iblk m c 8 t0_0)).trans (blk8 m c)

theorem one1 (q : S1.Idx) : q = ix1 0 := by
  funext a; apply Fin.ext; fin_cases a
  have : (q 0).val < 1 := (q 0).isLt
  show (q 0).val = 0
  omega

/-- The scaled activations' row. -/
abbrev rowV (r : Fin 1024) : ℕ → EReal := rowR (V m c main_v0) (V m c main_v1) r

/-- The scale array. -/
def B11 : FVec Ideal S1024x140 .fp8e4m3 := fun j => k0_pay6 (F := Ideal) (V m c main_v0) (V m c main_v1) (V m c main_v2 (ix1 0)) j
/-- The packed array. -/
def B10 : IVec S1024x1120 8 := fun j => k0_pay2 (pk13 (V m c main_v0) (V m c main_v1) (V m c main_v2 (ix1 0))) j
/-- The result array. -/
def B9 : FVec Ideal S1024x6720 .bf16 := fun j =>
  k0_pay1 (F := Ideal) (wq (V m c main_arg3) (V m c main_arg4)
      (xq22 (k0_pay6 (F := Ideal) (V m c main_v0) (V m c main_v1) (V m c main_v2 (ix1 0))) (lo15 (V m c main_v0) (V m c main_v1) (V m c main_v2 (ix1 0)))
        (bit16 (V m c main_v0) (V m c main_v1) (V m c main_v2 (ix1 0))) (pk13 (V m c main_v0) (V m c main_v1) (V m c main_v2 (ix1 0)))))
    (k0_pay40 (F := Ideal) (k0_pay3 (F := Ideal) (V m c main_v0) (V m c main_v1)) (V m c main_arg6) (V m c main_arg7))
    (k0_pay41 (F := Ideal) (V m c main_v2 (ix1 0)) (V m c main_v3 (ix1 0))) (V m c main_v4) j

theorem arr11 : (dats m 0 c).arrAt 11 (cfgs 0).N = B11 m c := by
  refine (dats m 0 c).arrAt_eq_of_after_last 11 t0_0 (by decide +kernel) _ fun j => ?_
  blk_simp
  rw [after0_11]
  frame_out
  rw [rd0, rd1, rd2, one1 (Shape.Idx.first _)]
  rfl
theorem arr10 : (dats m 0 c).arrAt 10 (cfgs 0).N = B10 m c := by
  refine (dats m 0 c).arrAt_eq_of_after_last 10 t0_0 (by decide +kernel) _ fun j => ?_
  blk_simp
  rw [after0_10]
  frame_out
  rw [rd0, rd1, rd2, one1 (Shape.Idx.first _)]
  rfl
theorem arr9 : (dats m 0 c).arrAt 9 (cfgs 0).N = B9 m c := by
  refine (dats m 0 c).arrAt_eq_of_after_last 9 t0_0 (by decide +kernel) _ fun j => ?_
  blk_simp
  rw [after0_9]
  unfold outsAt0
  frame_out
  rw [rd0, rd1, rd2, rd3, rd4, rd5, rd6, rd7, rd8, one1 (Shape.Idx.first _)]
  rfl

/-! ## The arrays the call finds -/
theorem V_v0 (r : Fin 1024) (n : Fin 2240) : V m c main_v0 (ix2 r n) = m ((c : Thread nD τ).loc main_arg0) (ix3 0 r n) := by
  show StableHlo.after hostOps0 (fun b => m (c, b)) (Proc.devRef .tc main_v0) (ix2 r n) = _
  entry_read
  pointwise
theorem V_v1 (n : Fin 2240) : V m c main_v1 (ix2 0 n) = m ((c : Thread nD τ).loc main_arg1) (ix1 n) := by
  show StableHlo.after hostOps0 (fun b => m (c, b)) (Proc.devRef .tc main_v1) (ix2 0 n) = _
  entry_read
  pointwise
theorem V_v2 : V m c main_v2 (ix1 0) = m ((c : Thread nD τ).loc main_arg2) ix0 := by
  show StableHlo.after hostOps0 (fun b => m (c, b)) (Proc.devRef .tc main_v2) (ix1 0) = _
  entry_read
  pointwise
theorem V_v3 : V m c main_v3 (ix1 0) = m ((c : Thread nD τ).loc main_arg5) ix0 := by
  show StableHlo.after hostOps0 (fun b => m (c, b)) (Proc.devRef .tc main_v3) (ix1 0) = _
  entry_read
  pointwise
theorem V_v4 (o : Fin 6720) : V m c main_v4 (ix2 0 o) = m ((c : Thread nD τ).loc main_arg8) (ix1 o) := by
  show StableHlo.after hostOps0 (fun b => m (c, b)) (Proc.devRef .tc main_v4) (ix2 0 o) = _
  entry_read
  pointwise
theorem V_a3 : V m c main_arg3 = m ((c : Thread nD τ).loc main_arg3) := by
  show StableHlo.after hostOps0 (fun b => m (c, b)) (Proc.devRef .tc main_arg3) = _
  entry_read
  rfl
theorem V_a4 : V m c main_arg4 = m ((c : Thread nD τ).loc main_arg4) := by
  show StableHlo.after hostOps0 (fun b => m (c, b)) (Proc.devRef .tc main_arg4) = _
  entry_read
  rfl
theorem V_a6 : V m c main_arg6 = m ((c : Thread nD τ).loc main_arg6) := by
  show StableHlo.after hostOps0 (fun b => m (c, b)) (Proc.devRef .tc main_arg6) = _
  entry_read
  rfl
theorem V_a7 : V m c main_arg7 = m ((c : Thread nD τ).loc main_arg7) := by
  show StableHlo.after hostOps0 (fun b => m (c, b)) (Proc.devRef .tc main_arg7) = _
  entry_read
  rfl
-- ==== Proof.ReferenceIdeal.Results.lean ====
/- The reference's three results as functions of its arguments. -/
module

public import proofs.«01_k».proof.Proof.ReferenceIdeal.Arrays
public import proofs.«01_k».proof.Proof.Result

@[expose] public section

set_option maxRecDepth 16384

noncomputable section

namespace Cert.ReferenceIdeal.Own

open Cert.ReferenceIdeal.Gen Cert.Own
open Idealize.ShloMosaic Idealize.ShloMosaic.TcCoe Idealize.SL.Sem Idealize.ShloMosaic.Tactic

variable (m : (ℓ : Loc nD τ sig) → Buf (Elt Ideal) ℓ) (c : Dev nD)

theorem rowR_row (l : Fin 1024) : rowR (V m c main_v0) (V m c main_v1) l = rowOf (m ((c : Thread nD τ).loc main_arg0)) (m ((c : Thread nD τ).loc main_arg1)) l := by
  funext n
  unfold rowR rowOf
  split
  · rename_i h; rw [V_v0, V_v1]
  · rfl

variable (H : Real' (m ((c : Thread nD τ).loc main_arg0)) (m ((c : Thread nD τ).loc main_arg1)) (m ((c : Thread nD τ).loc main_arg2)) (m ((c : Thread nD τ).loc main_arg5))
  (m ((c : Thread nD τ).loc main_arg6)) (m ((c : Thread nD τ).loc main_arg7)))

include H in
theorem row_real (l : Fin 1024) (n : ℕ) : ∃ x : ℝ, rowR (V m c main_v0) (V m c main_v1) l n = (x : EReal) := by
  rw [rowR_row]; exact rowOf_real _ _ H.x H.s l n

theorem wtR_w (o : Fin 6720) (n : Fin 2240) : wtR (V m c main_arg3) (V m c main_arg4) o n
    = wOf (m ((c : Thread nD τ).loc main_arg3)) (m ((c : Thread nD τ).loc main_arg4)) o n := by
  unfold wtR wOf
  rw [V_a3, V_a4]

theorem b11_at (l : Fin 1024) (a : Fin 140) : B11 m c (ix2 l a)
    = sOf (m ((c : Thread nD τ).loc main_arg0)) (m ((c : Thread nD τ).loc main_arg1)) (m ((c : Thread nD τ).loc main_arg2)) (ix3 0 l a) := by
  refine (rpay6_at (V m c main_v0) (V m c main_v1) (V m c main_v2 (ix1 0)) l a).trans ?_
  rw [V_v2, rowR_row]; rfl

include H in
theorem b10_at (l : Fin 1024) (a : Fin 1120) : B10 m c (ix2 l a)
    = pOf (m ((c : Thread nD τ).loc main_arg0)) (m ((c : Thread nD τ).loc main_arg1)) (m ((c : Thread nD τ).loc main_arg2)) (ix3 0 l a) := by
  obtain ⟨γ, hg, h0⟩ := H.g
  refine (rpay2_at (V m c main_v0) (V m c main_v1) (V m c main_v2 (ix1 0)) ((V_v2 m c).trans hg) h0 (row_real m c H) l a).trans ?_
  rw [V_v2, rowR_row]; rfl

include H in
theorem b9_at (l : Fin 1024) (o : Fin 6720) : B9 m c (ix2 l o)
    = yOf (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7))
        (m ((c : Thread nD τ).loc main_arg8)) (ix3 0 l o) := by
  obtain ⟨γ, hg, h0⟩ := H.g
  refine (y9_at (V m c main_v0) (V m c main_v1) (V m c main_v2 (ix1 0)) ((V_v2 m c).trans hg) h0 (row_real m c H) (V m c main_arg3) (V m c main_arg4)
    (V m c main_v3 (ix1 0)) (V m c main_arg6) (V m c main_arg7) (V m c main_v4) l o).trans ?_
  rw [V_v2, V_v3, rowR_row]
  refine congrArg₂ (· + ·) (congrArg₂ (· + ·) (congrArg (· * _) (Finset.sum_congr rfl fun n _ => congrArg (_ * ·) (wtR_w m c o n))) ?_) (V_v4 m c o)
  rw [V_a6, V_a7]
  rfl

/-- The buffers' contents when the last host lines start. -/
def EX (m : (ℓ : Loc nD τ sig) → Buf (Elt Ideal) ℓ) (c : Dev nD) : Valuation τ sig (Elt Ideal) :=
  Pipeline.withArrays (cfgs 0).spec c (V0 m c) fun w => (dats m 0 c).arrAt w (cfgs 0).N
theorem EX_arr (w : Fin cfg0.W) : EX m c (Proc.devRef .tc (Pipeline.arrRef spec0 w)) = (dats m 0 c).arrAt w (cfgs 0).N := by
  unfold EX; exact Pipeline.withArrays_arr spec0 launch0.win.arr_inj c _ _ w

theorem out_eq {n : ℕ} {α : Type} (f g : (⟨3, ![1, 1024, n]⟩ : Shape).Idx → α) (h : ∀ (l : Fin 1024) (o : Fin n), f (ix3 0 l o) = g (ix3 0 l o)) : f = g := by
  funext i
  have e : i = ix3 0 (i 1) (i 2) := by
    refine (eq_ix3 i).trans ?_
    exact congrArg (fun q : Fin 1 => ix3 q (i 1) (i 2)) (Subsingleton.elim (α := Fin 1) _ _)
  rw [e]; exact h (i 1) (i 2)

theorem tail_v6 (l : Fin 1024) (o : Fin 6720) : Pipeline.afterTail₀ cfgs (dats m) 0 (V0 m) [hostOps1] c main_v6 (ix3 0 l o) = EX m c (Proc.devRef .tc main_v5_0) (ix2 l o) := by
  show StableHlo.after hostOps1 (EX m c) (Proc.devRef .tc main_v6) (ix3 0 l o) = _
  generalize EX m c = σ
  entry_read
  pointwise
theorem tail_v7 (l : Fin 1024) (o : Fin 1120) : Pipeline.afterTail₀ cfgs (dats m) 0 (V0 m) [hostOps1] c main_v7 (ix3 0 l o) = EX m c (Proc.devRef .tc main_v5_1) (ix2 l o) := by
  show StableHlo.after hostOps1 (EX m c) (Proc.devRef .tc main_v7) (ix3 0 l o) = _
  generalize EX m c = σ
  entry_read
  pointwise
theorem tail_v8 (l : Fin 1024) (o : Fin 140) : Pipeline.afterTail₀ cfgs (dats m) 0 (V0 m) [hostOps1] c main_v8 (ix3 0 l o) = EX m c (Proc.devRef .tc main_v5_2) (ix2 l o) := by
  show StableHlo.after hostOps1 (EX m c) (Proc.devRef .tc main_v8) (ix3 0 l o) = _
  generalize EX m c = σ
  entry_read
  pointwise

theorem at_v6 (l : Fin 1024) (o : Fin 6720) : EX m c (Proc.devRef .tc main_v5_0) (ix2 l o) = B9 m c (ix2 l o) :=
  congrFun ((EX_arr m c 9).trans (arr9 m c)) (ix2 l o)
theorem at_v7 (l : Fin 1024) (o : Fin 1120) : EX m c (Proc.devRef .tc main_v5_1) (ix2 l o) = B10 m c (ix2 l o) :=
  congrFun ((EX_arr m c 10).trans (arr10 m c)) (ix2 l o)
theorem at_v8 (l : Fin 1024) (o : Fin 140) : EX m c (Proc.devRef .tc main_v5_2) (ix2 l o) = B11 m c (ix2 l o) :=
  congrFun ((EX_arr m c 11).trans (arr11 m c)) (ix2 l o)

/-- The reference's results. -/
theorem values (m : (ℓ : Loc nD τ sig) → Buf (Elt Ideal) ℓ) (ρ : Dev nD → PrngReg)
    (H : ∀ c : Dev nD, Real' (m ((c.tc : Thread nD τ).loc main_arg0)) (m ((c.tc : Thread nD τ).loc main_arg1)) (m ((c.tc : Thread nD τ).loc main_arg2)) (m ((c.tc : Thread nD τ).loc main_arg5))
      (m ((c.tc : Thread nD τ).loc main_arg6)) (m ((c.tc : Thread nD τ).loc main_arg7))) :
    θ_run defs (onTc (τ := τ) (main (F := Ideal))) ⟨m, fun _ => 0, ρ⟩ (fun r => ∀ c : Dev nD,
      r.2.mem ((c.tc : Thread nD τ).loc main_v6) = yOf (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8))
      ∧ r.2.mem ((c.tc : Thread nD τ).loc main_v7) = pOf (m ((c.tc : Thread nD τ).loc main_arg0)) (m ((c.tc : Thread nD τ).loc main_arg1)) (m ((c.tc : Thread nD τ).loc main_arg2))
      ∧ r.2.mem ((c.tc : Thread nD τ).loc main_v8) = sOf (m ((c.tc : Thread nD τ).loc main_arg0)) (m ((c.tc : Thread nD τ).loc main_arg1)) (m ((c.tc : Thread nD τ).loc main_arg2))) := by
  run_from Gen.run_main m ρ
  · exact out_eq _ _ fun l o => (tail_v6 m c l o).trans ((at_v6 m c l o).trans (b9_at m c (H c) l o))
  · exact out_eq _ _ fun l o => (tail_v7 m c l o).trans ((at_v7 m c l o).trans (b10_at m c (H c) l o))
  · exact out_eq _ _ fun l o => (tail_v8 m c l o).trans ((at_v8 m c l o).trans (b11_at m c l o))

/-- The reference's run. -/
theorem run (m : (ℓ : Loc nD τ sig) → Buf (Elt Ideal) ℓ) (ρ : Dev nD → PrngReg)
    (H : ∀ c : Dev nD, Real' (m ((c.tc : Thread nD τ).loc main_arg0)) (m ((c.tc : Thread nD τ).loc main_arg1)) (m ((c.tc : Thread nD τ).loc main_arg2)) (m ((c.tc : Thread nD τ).loc main_arg5))
      (m ((c.tc : Thread nD τ).loc main_arg6)) (m ((c.tc : Thread nD τ).loc main_arg7))) :
    θ_run defs (onTc (τ := τ) (main (F := Ideal))) ⟨m, fun _ => 0, ρ⟩ (fun r => ∀ c : Dev nD,
      r.2.mem ((c.tc : Thread nD τ).loc main_v6) = yOf (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7))
        (m ((c.tc : Thread nD τ).loc main_arg8))
      ∧ r.2.mem ((c.tc : Thread nD τ).loc main_v7) = pOf (m ((c.tc : Thread nD τ).loc main_arg0)) (m ((c.tc : Thread nD τ).loc main_arg1)) (m ((c.tc : Thread nD τ).loc main_arg2))
      ∧ r.2.mem ((c.tc : Thread nD τ).loc main_v8) = sOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h.1 c).1, (h.1 c).2.1, (h.1 c).2.2, h.2 c⟩) (θ_run_and (values m ρ H) (Gen.unchanged m ρ))

end Cert.ReferenceIdeal.Own
-- ==== Proof.lean ====
module

public import proofs.«01_k».proof.Defs
public import proofs.«01_k».proof.Proof.Kernel.Run
public import proofs.«01_k».proof.Proof.KernelIdeal.Run
public import proofs.«01_k».proof.Proof.KernelIdeal.Results
public import proofs.«01_k».proof.Proof.ReferenceIdeal.Results
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_pre
public import Idealize.ShloMosaic.Adequacy
public import Idealize.ShloMosaic.Init

@[expose] public section

noncomputable section

namespace Cert.Proof

open Idealize.ShloMosaic Idealize.SL.Sem Cert.Kernel

/-- The precondition's facts of the kernel's arguments. -/
theorem real_K (m : (ℓ : Loc Cert.KernelIdeal.nD Cert.KernelIdeal.τ Cert.KernelIdeal.sig) → Buf (Elt Ideal) ℓ) (hp : Cert.Pre_KernelIdeal_pre m)
    (c : Dev Cert.KernelIdeal.nD) : Cert.Own.Real' (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  obtain ⟨hx, hs, hd, hu, hg, hw⟩ := Cert.Own.of_pre _ _ _ _ _ _ _ _ _ (congrFun (hp c) ix0)
  exact ⟨hx, hs, hd, hu, hg, hw⟩

/-- The kernel's three results are the reference's. -/
theorem values : Cert.algebraic_KernelIdeal_ReferenceIdeal_pre_pre := by
  intro m g m' g' hp ha
  have HK := real_K m hp
  have HR : ∀ c : Dev Cert.ReferenceIdeal.nD, Cert.Own.Real' (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) := fun c => by
    obtain ⟨e0, e1, e2, e3, e4, e5, e6, e7, e8⟩ := ha c
    rw [e0, e1, e2, e5, e6, e7]; exact HK c
  refine ⟨fun c => Cert.Own.yOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Own.pOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Cert.Own.sOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), Cert.KernelIdeal.Own.run m g HK, ?_⟩
  refine (θ_run Cert.ReferenceIdeal.defs _ _).mono (fun r h c => ?_) (Cert.ReferenceIdeal.Own.run m' g' HR)
  obtain ⟨e0, e1, e2, e3, e4, e5, e6, e7, e8⟩ := ha c
  obtain ⟨h0, h1, h2, hr⟩ := h c
  refine ⟨h0.trans ?_, h1.trans ?_, h2.trans ?_, hr⟩
  · rw [e0, e1, e2, e3, e4, e5, e6, e7, e8]
  · rw [e0, e1, e2]
  · rw [e0, e1, e2]

theorem claim : Cert.Claim := ⟨Cert.Kernel.Gen.facts, Cert.KernelIdeal.Gen.facts, Cert.ReferenceIdeal.Gen.facts, Cert.Pre_pre.Gen.facts,
  fun m ρ _ => Cert.Kernel.Own.frame m ρ, fun m ρ _ => Cert.KernelIdeal.Own.frame m ρ, fun m ρ _ => Cert.KernelIdeal.Own.frame m ρ,
  fun m ρ _ => Cert.ReferenceIdeal.Gen.frame m ρ, fun m ρ _ => Cert.ReferenceIdeal.Gen.frame m ρ, trivial, values⟩

end Cert.Proof

end
